-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 4096]⟩ ⟨3, ![4, 4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S1024x4096 : Shape := ⟨2, ![1024, 4096]⟩
abbrev S4x512x2048 : Shape := ⟨3, ![4, 512, 2048]⟩
abbrev S512x2048 : Shape := ⟨2, ![512, 2048]⟩
abbrev S2x512x2048 : Shape := ⟨3, ![2, 512, 2048]⟩
abbrev S4 : Shape := ⟨1, ![4]⟩
abbrev S1x512x2048 : Shape := ⟨3, ![1, 512, 2048]⟩
abbrev S1 : Shape := ⟨1, ![1]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩

abbrev nBuf : Space → Nat
  | .hbm => 7
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S_, .f32⟩
  | .hbm, ⟨5, _⟩ => ⟨S4096x4096, .f32⟩
  | .hbm, ⟨6, _⟩ => ⟨S4096x4096, .f32⟩
  | .local _ .vmem, ⟨0, _⟩ => ⟨S1x4096, .f32⟩
  | .local _ .vmem, ⟨1, _⟩ => ⟨S1024x4096, .f32⟩
  | .local _ .vmem, ⟨2, _⟩ => ⟨S4x512x2048, .bf16⟩
  | .local _ .vmem, ⟨3, _⟩ => ⟨S4x512x2048, .bf16⟩
  | .local _ .vmem, ⟨4, _⟩ => ⟨S512x2048, .f32⟩
  | .local _ .vmem, ⟨5, _⟩ => ⟨S512x2048, .f32⟩
  | .local _ .vmem, ⟨6, _⟩ => ⟨S2x512x2048, .bf16⟩
  | .local _ .vmem, ⟨7, _⟩ => ⟨S2x512x2048, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 3 21 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_10 : BitVec 32) (c0_i32_31 : BitVec 32) : Fin 3 → Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c0_i32_10
  let c8_i32 : BitVec 32 := 8#32
  let v14 : BitVec 32 := Scalar.addi v13 c8_i32
  let c4_i32_11 : BitVec 32 := 4#32
  let v15 : BitVec 32 := Scalar.remsi v14 c4_i32_11
  let c1024_i32 : BitVec 32 := 1024#32
  let v37 : BitVec 32 := Scalar.muli v15 c1024_i32
  let v38 : BitVec 32 := Scalar.addi v37 c0_i32_31
  let c0_i32_33 : BitVec 32 := 0#32
  ![0, v38.toNat, 0]
def k0_off1_at (r : Fin 8) : BitVec 32 × BitVec 32 :=
  if r.val < 4 then
    if r.val < 2 then
      if r.val < 1 then
        (0#32, 0#32)
      else
        (0#32, 512#32)
    else
      if r.val < 3 then
        (4294967295#32, 0#32)
      else
        (4294967295#32, 512#32)
  else
    if r.val < 6 then
      if r.val < 5 then
        (4294967294#32, 0#32)
      else
        (4294967294#32, 512#32)
    else
      if r.val < 7 then
        (1#32, 0#32)
      else
        (1#32, 512#32)
def k0_off2 (d0 : Dev nD) (c2_i32_20 : BitVec 32) (c0_i32_35 : BitVec 32) : Fin 3 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32_20
  let c8_i32_21 : BitVec 32 := 8#32
  let v26 : BitVec 32 := Scalar.addi v25 c8_i32_21
  let c4_i32_22 : BitVec 32 := 4#32
  let v27 : BitVec 32 := Scalar.remsi v26 c4_i32_22
  let c1024_i32_34 : BitVec 32 := 1024#32
  let v41 : BitVec 32 := Scalar.muli v27 c1024_i32_34
  let v42 : BitVec 32 := Scalar.addi v41 c0_i32_35
  let c2048_i32 : BitVec 32 := 2048#32
  ![0, v42.toNat, 2048]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_47 : BitVec 32 := 1#32
  let v52 : BitVec 32 := Scalar.muli v4 c1_i32_47
  let v53 : BitVec 32 := Scalar.addi c0_i32_48 v52
  v53.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_67 : BitVec 32 := 1#32
  let v73 : BitVec 32 := Scalar.muli v7 c1_i32_67
  let v74 : BitVec 32 := Scalar.addi c0_i32_68 v73
  v74.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_87 : BitVec 32 := 1#32
  let v94 : BitVec 32 := Scalar.muli v4 c1_i32_87
  let v95 : BitVec 32 := Scalar.addi c0_i32_88 v94
  v95.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_111 : BitVec 32 := 1#32
  let v118 : BitVec 32 := Scalar.muli v7 c1_i32_111
  let v119 : BitVec 32 := Scalar.addi c0_i32_112 v118
  v119.toNat
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_148 : BitVec 32 := 1#32
  let v154 : BitVec 32 := Scalar.muli v4 c1_i32_148
  let v155 : BitVec 32 := Scalar.addi c0_i32_149 v154
  v155.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_185 : BitVec 32 := 1#32
  let v190 : BitVec 32 := Scalar.muli v7 c1_i32_185
  let v191 : BitVec 32 := Scalar.addi c0_i32_186 v190
  v191.toNat
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_222 : BitVec 32 := 1#32
  let v226 : BitVec 32 := Scalar.muli v4 c1_i32_222
  let v227 : BitVec 32 := Scalar.addi c0_i32_223 v226
  v227.toNat
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_258 : BitVec 32 := 1#32
  let v262 : BitVec 32 := Scalar.muli v7 c1_i32_258
  let v263 : BitVec 32 := Scalar.addi c0_i32_259 v262
  v263.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_300 : BitVec 32 := 1#32
  let v304 : BitVec 32 := Scalar.muli v7 c1_i32_300
  let v305 : BitVec 32 := Scalar.addi c0_i32_301 v304
  v305.toNat
def k0_dev12 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_339 : BitVec 32 := 1#32
  let v338 : BitVec 32 := Scalar.muli v4 c1_i32_339
  let v339 : BitVec 32 := Scalar.addi c0_i32_340 v338
  v339.toNat
def k0_dev13 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_380 : BitVec 32 := 1#32
  let v375 : BitVec 32 := Scalar.muli v7 c1_i32_380
  let v376 : BitVec 32 := Scalar.addi c0_i32_381 v375
  v376.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_416 : BitVec 32 := 1#32
  let v406 : BitVec 32 := Scalar.muli v4 c1_i32_416
  let v407 : BitVec 32 := Scalar.addi c0_i32_417 v406
  v407.toNat
def k0_dev15 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_437 : BitVec 32 := 1#32
  let v418 : BitVec 32 := Scalar.muli v4 c1_i32_437
  let v419 : BitVec 32 := Scalar.addi c0_i32_438 v418
  v419.toNat
def k0_dev16 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_458 : BitVec 32 := 1#32
  let v434 : BitVec 32 := Scalar.muli v7 c1_i32_458
  let v435 : BitVec 32 := Scalar.addi c0_i32_459 v434
  v435.toNat
def k0_dev17 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_479 : BitVec 32 := 1#32
  let v450 : BitVec 32 := Scalar.muli v4 c1_i32_479
  let v451 : BitVec 32 := Scalar.addi c0_i32_480 v450
  v451.toNat
def k0_dev18 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_500 : BitVec 32 := 1#32
  let v466 : BitVec 32 := Scalar.muli v7 c1_i32_500
  let v467 : BitVec 32 := Scalar.addi c0_i32_501 v466
  v467.toNat
def k0_off3 (d0 : Dev nD) (c1_i32_348 : BitVec 32) (c0_i32_536 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : BitVec 32 := Scalar.addi v2 c1_i32_348
  let c8_i32_349 : BitVec 32 := 8#32
  let v348 : BitVec 32 := Scalar.addi v347 c8_i32_349
  let c4_i32_350 : BitVec 32 := 4#32
  let v349 : BitVec 32 := Scalar.remsi v348 c4_i32_350
  let c1024_i32_535 : BitVec 32 := 1024#32
  let v502 : BitVec 32 := Scalar.muli v349 c1024_i32_535
  let v503 : BitVec 32 := Scalar.addi v502 c0_i32_536
  let c0_i32_537 : BitVec 32 := 0#32
  ![v503.toNat, 0]
def k0_off3_at (r : Fin 8) : BitVec 32 × BitVec 32 :=
  if r.val < 4 then
    if r.val < 2 then
      if r.val < 1 then
        (1#32, 0#32)
      else
        (1#32, 512#32)
    else
      if r.val < 3 then
        (0#32, 0#32)
      else
        (0#32, 512#32)
  else
    if r.val < 6 then
      if r.val < 5 then
        (4294967295#32, 0#32)
      else
        (4294967295#32, 512#32)
    else
      if r.val < 7 then
        (2#32, 0#32)
      else
        (2#32, 512#32)
def k0_off4 (d0 : Dev nD) (c1_i32_348 : BitVec 32) (c0_i32_547 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : BitVec 32 := Scalar.addi v2 c1_i32_348
  let c8_i32_349 : BitVec 32 := 8#32
  let v348 : BitVec 32 := Scalar.addi v347 c8_i32_349
  let c4_i32_350 : BitVec 32 := 4#32
  let v349 : BitVec 32 := Scalar.remsi v348 c4_i32_350
  let c1024_i32_546 : BitVec 32 := 1024#32
  let v515 : BitVec 32 := Scalar.muli v349 c1024_i32_546
  let v516 : BitVec 32 := Scalar.addi v515 c0_i32_547
  let c2048_i32_548 : BitVec 32 := 2048#32
  ![v516.toNat, 2048]
def k0_dev19 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_589 : BitVec 32 := 1#32
  let v574 : BitVec 32 := Scalar.muli v7 c1_i32_589
  let v575 : BitVec 32 := Scalar.addi c0_i32_590 v574
  v575.toNat
def k0_dev20 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_601 : BitVec 32 := 1#32
  let v582 : BitVec 32 := Scalar.muli v4 c1_i32_601
  let v583 : BitVec 32 := Scalar.addi c0_i32_602 v582
  v583.toNat
def k0_dev21 (d0 : Dev nD) : Nat :=
  let c0_i32_615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_614 : BitVec 32 := 1#32
  let v589 : BitVec 32 := Scalar.muli v4 c1_i32_614
  let v590 : BitVec 32 := Scalar.addi c0_i32_615 v589
  v590.toNat
def k0_dev22 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_635 : BitVec 32 := 1#32
  let v608 : BitVec 32 := Scalar.muli v7 c1_i32_635
  let v609 : BitVec 32 := Scalar.addi c0_i32_636 v608
  v609.toNat
def k0_off5 (d0 : Dev nD) (c0_i32_646 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_348 : BitVec 32 := 1#32
  let v347 : BitVec 32 := Scalar.addi v2 c1_i32_348
  let c8_i32_349 : BitVec 32 := 8#32
  let v348 : BitVec 32 := Scalar.addi v347 c8_i32_349
  let c4_i32_350 : BitVec 32 := 4#32
  let v349 : BitVec 32 := Scalar.remsi v348 c4_i32_350
  let c1024_i32_645 : BitVec 32 := 1024#32
  let v622 : BitVec 32 := Scalar.muli v349 c1024_i32_645
  let v623 : BitVec 32 := Scalar.addi v622 c0_i32_646
  let c0_i32_647 : BitVec 32 := 0#32
  ![v623.toNat, 0]
def k0_dev23 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_734 : BitVec 32 := 1#32
  let v724 : BitVec 32 := Scalar.muli v7 c1_i32_734
  let v725 : BitVec 32 := Scalar.addi c0_i32_735 v724
  v725.toNat
def k0_dev24 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_737 : BitVec 32 := 1#32
  let v726 : BitVec 32 := Scalar.muli v7 c1_i32_737
  let v727 : BitVec 32 := Scalar.addi c0_i32_738 v726
  v727.toNat
def k0_dev25 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_749 : BitVec 32 := 1#32
  let v734 : BitVec 32 := Scalar.muli v4 c1_i32_749
  let v735 : BitVec 32 := Scalar.addi c0_i32_750 v734
  v735.toNat
def k0_dev26 (d0 : Dev nD) : Nat :=
  let c0_i32_753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_752 : BitVec 32 := 1#32
  let v736 : BitVec 32 := Scalar.muli v4 c1_i32_752
  let v737 : BitVec 32 := Scalar.addi c0_i32_753 v736
  v737.toNat
def k0_dev27 (d0 : Dev nD) : Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_765 : BitVec 32 := 1#32
  let v743 : BitVec 32 := Scalar.muli v4 c1_i32_765
  let v744 : BitVec 32 := Scalar.addi c0_i32_766 v743
  v744.toNat
def k0_dev28 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_782 : BitVec 32 := 1#32
  let v758 : BitVec 32 := Scalar.muli v7 c1_i32_782
  let v759 : BitVec 32 := Scalar.addi c0_i32_783 v758
  v759.toNat
def k0_dev29 (d0 : Dev nD) : Nat :=
  let c0_i32_795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_794 : BitVec 32 := 1#32
  let v772 : BitVec 32 := Scalar.muli v7 c1_i32_794
  let v773 : BitVec 32 := Scalar.addi c0_i32_795 v772
  v773.toNat
def k0_dev30 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_797 : BitVec 32 := 1#32
  let v774 : BitVec 32 := Scalar.muli v4 c1_i32_797
  let v775 : BitVec 32 := Scalar.addi c0_i32_798 v774
  v775.toNat
def k0_dev31 (d0 : Dev nD) : Nat :=
  let c0_i32_816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_815 : BitVec 32 := 1#32
  let v784 : BitVec 32 := Scalar.muli v4 c1_i32_815
  let v785 : BitVec 32 := Scalar.addi c0_i32_816 v784
  v785.toNat
def k0_dev32 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_846 : BitVec 32 := 1#32
  let v812 : BitVec 32 := Scalar.muli v7 c1_i32_846
  let v813 : BitVec 32 := Scalar.addi c0_i32_847 v812
  v813.toNat
def k0_dev33 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_877 : BitVec 32 := 1#32
  let v840 : BitVec 32 := Scalar.muli v4 c1_i32_877
  let v841 : BitVec 32 := Scalar.addi c0_i32_878 v840
  v841.toNat
def k0_dev34 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_908 : BitVec 32 := 1#32
  let v868 : BitVec 32 := Scalar.muli v7 c1_i32_908
  let v869 : BitVec 32 := Scalar.addi c0_i32_909 v868
  v869.toNat
def k0_dev35 (d0 : Dev nD) : Nat :=
  let c0_i32_934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_933 : BitVec 32 := 1#32
  let v894 : BitVec 32 := Scalar.muli v7 c1_i32_933
  let v895 : BitVec 32 := Scalar.addi c0_i32_934 v894
  v895.toNat
def k0_dev36 (d0 : Dev nD) : Nat :=
  let c0_i32_946 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_945 : BitVec 32 := 1#32
  let v902 : BitVec 32 := Scalar.muli v4 c1_i32_945
  let v903 : BitVec 32 := Scalar.addi c0_i32_946 v902
  v903.toNat
def k0_dev37 (d0 : Dev nD) : Nat :=
  let c0_i32_973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_972 : BitVec 32 := 1#32
  let v918 : BitVec 32 := Scalar.muli v4 c1_i32_972
  let v919 : BitVec 32 := Scalar.addi c0_i32_973 v918
  v919.toNat
def k0_dev38 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1012 : BitVec 32 := 1#32
  let v952 : BitVec 32 := Scalar.muli v7 c1_i32_1012
  let v953 : BitVec 32 := Scalar.addi c0_i32_1013 v952
  v953.toNat
def k0_dev39 (d0 : Dev nD) : Nat :=
  let c0_i32_1038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1037 : BitVec 32 := 1#32
  let v978 : BitVec 32 := Scalar.muli v7 c1_i32_1037
  let v979 : BitVec 32 := Scalar.addi c0_i32_1038 v978
  v979.toNat
def k0_dev40 (d0 : Dev nD) : Nat :=
  let c0_i32_1050 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1049 : BitVec 32 := 1#32
  let v986 : BitVec 32 := Scalar.muli v4 c1_i32_1049
  let v987 : BitVec 32 := Scalar.addi c0_i32_1050 v986
  v987.toNat
def k0_dev41 (d0 : Dev nD) : Nat :=
  let c0_i32_1077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1076 : BitVec 32 := 1#32
  let v1002 : BitVec 32 := Scalar.muli v4 c1_i32_1076
  let v1003 : BitVec 32 := Scalar.addi c0_i32_1077 v1002
  v1003.toNat
def k0_dev42 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1116 : BitVec 32 := 1#32
  let v1036 : BitVec 32 := Scalar.muli v7 c1_i32_1116
  let v1037 : BitVec 32 := Scalar.addi c0_i32_1117 v1036
  v1037.toNat
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Ring.lean ====
/-
# 01_k — the two rings, their buffers and their semaphores

The kernel runs two rings over the four devices at once: the one sends each message to the next
device, the other to the previous one. Both follow the same protocol, so everything about a ring is
stated once, over a direction `b : Bool` (`true`: towards the next device).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Memref
public import Idealize.ShloMosaic.Lib.Release
public import Idealize.ShloMosaic.Lib.Rounds
public import Idealize.ShloMosaic.Lib.Transfers
public import Idealize.ShloMosaic.Lib.Pipeline.TalkSites
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Directions -/

set_option backward.proofsInPublic true in
/-- The device a message of the ring `b` goes to. -/
def tgt (b : Bool) (c : Dev nD) : Dev nD := ⟨(c.val + cond b 1 3) % 4, Nat.mod_lt _ (by decide)⟩

theorem tgt_tgt (b : Bool) (c : Dev nD) : tgt b (tgt (!b) c) = c := by revert b c; decide
theorem tgt_tgt' (b : Bool) (c : Dev nD) : tgt (!b) (tgt b c) = c := by revert b c; decide

/-- The ring as a permutation of the devices. -/
def ring (b : Bool) : Dev nD ≃ Dev nD := ⟨tgt b, tgt (!b), tgt_tgt' b, tgt_tgt b⟩

/-! ## Buffers -/

abbrev xM : Memref sig .tc .hbm S1x4096x4096 .f32 := Memref.whole main_arg0
abbrev gM : Memref sig .tc .hbm S4096x4096 .f32 := Memref.whole main_arg1
abbrev oM : Memref sig .tc .hbm S4096x4096 .f32 := Memref.whole main_v3
abbrev wM : Memref sig .tc .vmem S1x4096 .f32 := Memref.whole cc0_stg0_0
abbrev aM : Memref sig .tc .vmem S1024x4096 .f32 := Memref.whole cc0_scratch0
/-- A ring's four message slots. -/
abbrev cM : Bool → Memref sig .tc .vmem S4x512x2048 .bf16
  | true => Memref.whole cc0_scratch1
  | false => Memref.whole cc0_scratch2
/-- A ring's staging buffer. -/
abbrev sM : Bool → Memref sig .tc .vmem S512x2048 .f32
  | true => Memref.whole cc0_scratch3
  | false => Memref.whole cc0_scratch4
/-- A ring's two buffers of converted chunks. -/
abbrev vM : Bool → Memref sig .tc .vmem S2x512x2048 .bf16
  | true => Memref.whole cc0_scratch5
  | false => Memref.whole cc0_scratch6

theorem inb4 (s : Fin 4) : ∀ a, (![s.val, 0, 0] : Fin 3 → ℕ) a + S1x512x2048.size a ≤ S4x512x2048.size a := by
  revert s; decide
theorem inb2 (s : Fin 2) : ∀ a, (![s.val, 0, 0] : Fin 3 → ℕ) a + S1x512x2048.size a ≤ S2x512x2048.size a := by
  revert s; decide
theorem inbA (s : Fin 2) : ∀ a, (![512 * s.val, 0] : Fin 2 → ℕ) a + S512x4096.size a ≤ S1024x4096.size a := by
  revert s; decide

/-- One message slot, of shape `1 × 512 × 2048`. -/
abbrev cR (s : Fin 4) : Rect S4x512x2048 := Rect.unit (s := S4x512x2048) ![s.val, 0, 0] S1x512x2048.size (inb4 s)
abbrev cS (b : Bool) (s : Fin 4) : Memref sig .tc .vmem S1x512x2048 .bf16 := (cM b).slice (cR s) (fun _ => rfl)
abbrev vR (s : Fin 2) : Rect S2x512x2048 := Rect.unit (s := S2x512x2048) ![s.val, 0, 0] S1x512x2048.size (inb2 s)
abbrev vS (b : Bool) (s : Fin 2) : Memref sig .tc .vmem S1x512x2048 .bf16 := (vM b).slice (vR s) (fun _ => rfl)
/-- Half of the accumulator: 512 of its 1024 rows. -/
abbrev aR (s : Fin 2) : Rect S1024x4096 := Rect.unit (s := S1024x4096) ![512 * s.val, 0] S512x4096.size (inbA s)
abbrev aS (s : Fin 2) : Memref sig .tc .vmem S512x4096 .f32 := aM.slice (aR s) (fun _ => rfl)
/-- A slot without its leading unit axis, as a copy names it. -/
abbrev sq {sp : Space} {e : EltTy} (m : Memref sig .tc sp S1x512x2048 e) : Memref sig .tc sp S512x2048 e :=
  m.squeeze S512x2048 squeezes_S1x512x2048_S512x2048

/-- The rows of chunk `k` counted from the device's own number, sub-block `s`. -/
abbrev row (c : Dev nD) (k : Fin 4) (s : Fin 2) : ℕ := 1024 * ((c.val + k.val) % 4) + 512 * s.val
abbrev col (b : Bool) : ℕ := cond b 0 2048

theorem inbX (b : Bool) (c : Dev nD) (k : Fin 4) (s : Fin 2) :
    ∀ a, (![0, row c k s, col b] : Fin 3 → ℕ) a + S1x512x2048.size a ≤ S1x4096x4096.size a := by
  revert b c k s; decide
theorem inbG (b : Bool) (c : Dev nD) (k : Fin 4) (s : Fin 2) :
    ∀ a, (![row c k s, col b] : Fin 2 → ℕ) a + S512x2048.size a ≤ S4096x4096.size a := by
  revert b c k s; decide
theorem inbO (c : Dev nD) (s : Fin 2) :
    ∀ a, (![row c 1 s, 0] : Fin 2 → ℕ) a + S512x4096.size a ≤ S4096x4096.size a := by
  revert c s; decide

/-- The piece of the partial sums a ring reads: 512 rows of a chunk, the ring's half of the columns. -/
abbrev xP (b : Bool) (c : Dev nD) (k : Fin 4) (s : Fin 2) : Memref sig .tc .hbm S512x2048 .f32 :=
  sq (xM.slice (Rect.unit (s := S1x4096x4096) ![0, row c k s, col b] S1x512x2048.size (inbX b c k s)) (fun _ => rfl))
abbrev hR (b : Bool) (c : Dev nD) (k : Fin 4) (s : Fin 2) : Rect S4096x4096 :=
  Rect.unit (s := S4096x4096) ![row c k s, col b] S512x2048.size (inbG b c k s)
abbrev gP (b : Bool) (c : Dev nD) (k : Fin 4) (s : Fin 2) : Memref sig .tc .hbm S512x2048 .f32 := gM.slice (hR b c k s) (fun _ => rfl)
abbrev oP (b : Bool) (c : Dev nD) (k : Fin 4) (s : Fin 2) : Memref sig .tc .hbm S512x2048 .f32 := oM.slice (hR b c k s) (fun _ => rfl)
abbrev fR (c : Dev nD) (s : Fin 2) : Rect S4096x4096 := Rect.unit (s := S4096x4096) ![row c 1 s, 0] S512x4096.size (inbO c s)
/-- The device's own rows of the result, over all columns. -/
abbrev oF (c : Dev nD) (s : Fin 2) : Memref sig .tc .hbm S512x4096 .f32 := oM.slice (fR c s) (fun _ => rfl)

/-! ## Semaphores -/

abbrev sndS (b : Bool) (s : Fin 4) : DmaSem sig := ⟨cond b 1 9 + s.val, by revert b s; decide⟩
abbrev rcvS (b : Bool) (s : Fin 4) : DmaSem sig := ⟨cond b 5 13 + s.val, by revert b s; decide⟩
abbrev stgS (b : Bool) : DmaSem sig := ⟨cond b 17 18, by revert b; decide⟩
abbrev ownS (s : Fin 2) : DmaSem sig := ⟨19 + s.val, by revert s; decide⟩
abbrev crdS (b : Bool) : Sem sig := ⟨cond b 0 1, by revert b; decide⟩
abbrev barS : Sem sig := ⟨2, by decide⟩

abbrev sndC (b : Bool) (s : Fin 4) (c : Dev nD) : GSem nD τ sig := ((c : Thread nD τ), .dma (sndS b s))
abbrev rcvC (b : Bool) (s : Fin 4) (c : Dev nD) : GSem nD τ sig := ((c : Thread nD τ), .dma (rcvS b s))
abbrev crdC (b : Bool) (c : Dev nD) : GSem nD τ sig := ((c : Thread nD τ), .reg (crdS b))
abbrev barC (c : Dev nD) : GSem nD τ sig := ((c : Thread nD τ), .reg barS)

/-- What a semaphore is for. -/
inductive Role where
  | bar | crd (b : Bool) | snd (b : Bool) (s : Fin 4) | rcv (b : Bool) (s : Fin 4) | other
  deriving DecidableEq

def role : SemLoc sig → Role
  | .reg i => if i.val = 2 then .bar else .crd (i.val = 0)
  | .dma i =>
    if 1 ≤ i.val ∧ i.val ≤ 16 then
      (if (i.val - 1) / 4 % 2 = 0 then Role.snd else Role.rcv) (i.val ≤ 8) ⟨(i.val - 1) % 4, Nat.mod_lt _ (by decide)⟩
    else .other

theorem role_snd (b : Bool) (s : Fin 4) : role (.dma (sndS b s)) = .snd b s := by revert b s; decide
theorem role_rcv (b : Bool) (s : Fin 4) : role (.dma (rcvS b s)) = .rcv b s := by revert b s; decide
theorem role_crd (b : Bool) : role (.reg (crdS b)) = .crd b := by revert b; decide
theorem role_bar : role (.reg barS) = .bar := by decide

/-- The units one message's copy counts on its semaphores. -/
abbrev N : ℕ := (sq (cS true 0)).view.dmaCredit
theorem N_pos : 0 < N := View.dmaCredit_pos _ (by decide)
/-- A copy of that shape counts the same whatever it copies onto. -/
theorem credit_any {sp : Space} (m : Memref sig .tc sp S512x2048 .bf16) : m.view.dmaCredit = N := rfl
theorem amount_sq (b : Bool) (s : Fin 4) (i : DmaSem sig) : (sq (cS b s)).view.amount (.dma i) = N := by
  cases b <;> rfl

end Cert.RingProof
-- ==== Proof.Contents.lean ====
/-
# 01_k — what every message and every result block holds

A message of a ring is known by its number `j < 12` and by the device that sends it; messages `0` to `5`
carry partial sums around, messages `6` to `11` carry finished blocks. All of it is stated over any float
values, from what the devices are given.
-/
module

public import proofs.«01_k».proof.Proof.Ring

@[expose] public section

noncomputable section

namespace Cert.RingProof

open Cert.KernelIdeal Cert.KernelIdeal.Gen
open Idealize.ShloMosaic
open Idealize.ShloMosaic.TcCoe

variable {F : FTy → Type} [FloatOps F]

/-- What the devices are given: the partial sums, the residual, the weights. -/
structure Data (F : FTy → Type) where
  x : Dev nD → Vec F S1x4096x4096 .f32
  g : Dev nD → Vec F S4096x4096 .f32
  w : Dev nD → Vec F S1x4096 .f32

/-- A position in a matrix. -/
def at2 {n k : ℕ} (i j : ℕ) (hi : i < n) (hj : j < k) : (⟨2, ![n, k]⟩ : Shape).Idx :=
  fun | 0 => ⟨i, hi⟩ | 1 => ⟨j, hj⟩

/-- The chunk a ring sends first, -/
def ini (b : Bool) : Fin 4 := cond b 0 2
/-- and the chunk it adds to the message received in step `h`. -/
def rsc (b : Bool) (h : Fin 2) : Fin 4 := cond b ⟨3 - h.val, by omega⟩ ⟨(3 + h.val) % 4, by omega⟩

variable (D : Data F)

/-- A piece of the partial sums as it is staged. -/
def xV (b : Bool) (c : Dev nD) (k : Fin 4) (s : Fin 2) : Vec F S512x2048 .f32 := (xP b c k s).view.read (Elt F) (D.x c)
/-- A piece of the residual as it is staged. -/
def gV (b : Bool) (c : Dev nD) (k : Fin 4) (s : Fin 2) : Vec F S512x2048 .f32 := (gP b c k s).view.read (Elt F) (D.g c)

/-- The message of step 0, and of the two steps that add to what was received. -/
def msg0 (b : Bool) (s : Fin 2) (c : Dev nD) : Vec F S1x512x2048 .bf16 := k0_pay1 (xV D b c (ini b) s)
def msg1 (b : Bool) (s : Fin 2) (c : Dev nD) : Vec F S1x512x2048 .bf16 := k0_pay5 (msg0 D b s (tgt (!b) c)) (xV D b c (rsc b 0) s)
def msg2 (b : Bool) (s : Fin 2) (c : Dev nD) : Vec F S1x512x2048 .bf16 := k0_pay5 (msg1 D b s (tgt (!b) c)) (xV D b c (rsc b 1) s)
/-- One ring's half of the columns of the device's own block, complete: the last received message, the
    device's own partial sums and the residual. -/
def sumP (b : Bool) (s : Fin 2) (c : Dev nD) : Vec F S512x2048 .f32 := k0_pay15 (msg2 D b s (tgt (!b) c)) (xV D b c 1 s)
def sumH (b : Bool) (s : Fin 2) (c : Dev nD) : Vec F S512x2048 .f32 := k0_pay17 (sumP D b s c) (gV D b c 1 s)
/-- A device's own block before it is normalised. -/
def sumV (s : Fin 2) (c : Dev nD) : Vec F S512x4096 .f32 := fun i =>
  if h : (i 1).val < 2048 then sumH D true s c (at2 (i 0).val (i 1).val (i 0).isLt h)
  else sumH D false s c (at2 (i 0).val ((i 1).val - 2048) (i 0).isLt (by have : (i 1).val < 4096 := (i 1).isLt; omega))
/-- 256 of its rows. -/
def tileV (s : Fin 2) (c : Dev nD) (t : Fin 2) : Vec F S256x4096 .f32 := fun j =>
  sumV D s c (at2 (256 * t.val + (j 0).val) (j 1).val (by have : (j 0).val < 256 := (j 0).isLt; omega) (j 1).isLt)
/-- A device's own block, normalised 256 rows at a time. -/
def ownV (s : Fin 2) (c : Dev nD) : Vec F S512x4096 .f32 := fun i =>
  k0_pay20 (tileV D s c ⟨(i 0).val / 256, by have : (i 0).val < 512 := (i 0).isLt; omega⟩) (D.w c)
    (at2 ((i 0).val % 256) (i 1).val (Nat.mod_lt _ (by decide)) (i 1).isLt)
/-- One ring's half of its columns. -/
def halfV (b : Bool) (s : Fin 2) (c : Dev nD) : Vec F S512x2048 .f32 := fun j =>
  ownV D s c (at2 (j 0).val (col b + (j 1).val) (j 0).isLt
    (by have : (j 1).val < 2048 := (j 1).isLt; cases b <;> simp only [col, cond] <;> omega))

/-- The message of step `n`. -/
def msg (b : Bool) : ℕ → Fin 2 → Dev nD → Vec F S1x512x2048 .bf16
  | 0 => msg0 D b
  | 1 => msg1 D b
  | 2 => msg2 D b
  | 3 => fun s c => k0_pay1 (halfV D b s c)
  | n + 4 => fun s c => msg b (n + 3) s (tgt (!b) c)

def s2 (j : ℕ) : Fin 2 := ⟨j % 2, Nat.mod_lt _ (by decide)⟩
def sl (j : ℕ) : Fin 4 := ⟨j % 4, Nat.mod_lt _ (by decide)⟩

/-- Message `j` of the ring `b` as the device `c` sends it, -/
def sent (b : Bool) (j : ℕ) (c : Dev nD) : Vec F S1x512x2048 .bf16 := msg D b (j / 2) (s2 j) c
/-- and as it receives it. -/
abbrev rcvd (b : Bool) (j : ℕ) (c : Dev nD) : Vec F S1x512x2048 .bf16 := sent D b j (tgt (!b) c)

/-- The finished blocks travel unchanged. -/
theorem sent_add (b : Bool) (j : ℕ) (h : 6 ≤ j) (c : Dev nD) : sent D b (j + 2) c = rcvd D b j c := by
  obtain ⟨n, rfl⟩ : ∃ n, j = n + 6 := ⟨j - 6, by omega⟩
  unfold rcvd sent
  have h1 : (n + 6 + 2) / 2 = (n / 2) + 4 := by omega
  have h2 : (n + 6) / 2 = (n / 2) + 3 := by omega
  have h3 : s2 (n + 6 + 2) = s2 (n + 6) := Fin.ext (by simp only [s2]; omega)
  rw [h1, h2, h3]; rfl

end Cert.RingProof
-- ==== Proof.Protocol.lean ====
/-
# 01_k — the protocol

What the devices owe each other, in the order in which they pay it, and what each semaphore's units
hand over. A credit on a ring's credit semaphore hands over facts that stay true: that a message slot
downstream has been freed so many times. Credits may arrive in any order, so the `k`-th unit hands over
the facts of all units up to it.
-/
module

public import proofs.«01_k».proof.Proof.Contents
public import Idealize.ShloMosaic.Lib.Pipeline.Kit
public import Idealize.ShloMosaic.Lib.Pipeline.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mayWait_of)
open Idealize.ShloMosaic.TalkSites (Pay tallyL)

variable {F : FTy → Type} [FloatOps F]

/-- A message slot, by its device, ring and number. -/
abbrev Key : Type := Dev nD × Bool × Fin 4
abbrev UP : Type := URounds (GSem nD τ sig) ℕ
abbrev UU : Type := UR sig nD τ × (UP × (USlots Key × Counters))

local notation "𝕄" => MT nD τ sig ℕ (Elt F) ℕ UU ℕ

abbrev EP : Emb (UR sig nD τ) (MT nD τ sig ℕ (Elt F) ℕ UU ℕ) := embL
/-- Where the protocol's rounds live, -/
def ER : Emb UP (MT nD τ sig ℕ (Elt F) ℕ UU ℕ) := (Emb.inl : Emb UP (UP × (USlots Key × Counters))).trans embR
/-- and the message slots' release counts. -/
def ES : Emb (USlots Key) (MT nD τ sig ℕ (Elt F) ℕ UU ℕ) :=
  (Emb.inl : Emb (USlots Key) (USlots Key × Counters)).trans
    ((Emb.inr : Emb (USlots Key × Counters) (UP × (USlots Key × Counters))).trans embR)
abbrev EC : UEmb Counters (MT nD τ sig ℕ (Elt F) ℕ UU ℕ) := countersEmb (U := UU)

instance ER_landsIn : (ER (F := F)).LandsIn (upEmb : UEmb _ (MT nD τ sig ℕ (Elt F) ℕ UU ℕ)) := by unfold ER; infer_instance
instance ES_landsIn : (ES (F := F)).LandsIn (upEmb : UEmb _ (MT nD τ sig ℕ (Elt F) ℕ UU ℕ)) := by unfold ES; infer_instance

abbrev 𝒱₀ : Variants := Variants.none

/-! ## Payments -/

/-- What a device pays: a unit of a neighbour's barrier, a message, a credit. -/
inductive Ev where
  | bar (b : Bool) | msg (b : Bool) (j : ℕ) | crd (b : Bool) (k : ℕ)
  deriving DecidableEq

/-- The levels of the messages and of the credits. -/
def lvM : ℕ → ℕ | 0 => 2 | 1 => 3 | 2 => 4 | 3 => 5 | 4 => 8 | 5 => 9 | 6 => 11 | 7 => 13 | 8 => 15 | 9 => 16 | 10 => 18 | _ => 20
def lvK : ℕ → ℕ | 0 => 6 | 1 => 7 | 2 => 10 | 3 => 12 | 4 => 12 | 5 => 14 | 6 => 17 | _ => 19

def Ev.lev : Ev → ℕ | .bar _ => 1 | .msg _ j => lvM j | .crd _ k => lvK k

def Ev.pay (c : Dev nD) : Ev → Pay nD τ sig
  | .bar b => (barC (tgt b c), 1, 1)
  | .msg b j => (rcvC b (sl j) (tgt b c), lvM j, N)
  | .crd b k => (crdC b (tgt (!b) c), lvK k, 1)

/-- A device's payments, in order. -/
def evs : List Ev :=
  [.bar false, .bar true,
   .msg true 0, .msg false 0, .msg true 1, .msg false 1, .msg true 2, .msg false 2, .msg true 3, .msg false 3,
   .crd true 0, .crd false 0, .crd true 1, .crd false 1,
   .msg true 4, .msg false 4, .msg true 5, .msg false 5, .crd true 2, .crd false 2,
   .msg true 6, .msg false 6, .crd true 3, .crd true 4, .crd false 3, .crd false 4, .msg true 7, .msg false 7,
   .crd true 5, .crd false 5, .msg true 8, .msg false 8, .msg true 9, .msg false 9, .crd true 6, .crd false 6,
   .msg true 10, .msg false 10, .crd true 7, .crd false 7, .msg true 11, .msg false 11]

def payL (l : List Ev) (c : Dev nD) : CellTallies nD τ sig ℕ := tallyL (l.map (Ev.pay c))

theorem payL_cons (e : Ev) (l : List Ev) (c : Dev nD) : payL (e :: l) c = payL l c + (e.pay c).tally := by
  unfold payL; rw [List.map_cons, tallyL, add_comm]

theorem payL_pos (l : List Ev) (c : Dev nD) {g : GSem nD τ sig} {i : ℕ} (h : 0 < payL l c g i) :
    ∃ e ∈ l, (e.pay c).1 = g ∧ (e.pay c).2.1 = i := by
  obtain ⟨x, hx, h1, h2⟩ := TalkSites.tallyL_pos h
  obtain ⟨e, he, rfl⟩ := List.mem_map.mp hx
  exact ⟨e, he, h1.symm, h2.symm⟩

theorem pay_lev (c : Dev nD) (e : Ev) : (e.pay c).2.1 = e.lev ∧ (e.pay c).1.1.2 = .tc := by cases e <;> exact ⟨rfl, rfl⟩

theorem lev_lt (e : Ev) : e.lev < 21 := by
  cases e with
  | bar b => exact Nat.lt_of_sub_eq_succ rfl
  | msg b j => show lvM j < 21; unfold lvM; split <;> omega
  | crd b k => show lvK k < 21; unfold lvK; split <;> omega

/-- A wait below everything still owed may be taken. -/
theorem may_wait (l : List Ev) (i : ℕ) (h : ∀ e ∈ l, i < e.lev) (hi : i < 21) (c : Dev nD) (s : SemLoc sig) :
    (levAts (L 21) lv : sProp 𝕄) ⊢ MayWait (c : Thread nD τ) s i (payL l c) :=
  mayWait_of hi c s _ fun (g : GSem nD τ sig) (k : ℕ) hk => by
    obtain ⟨e, he, h1, h2⟩ := payL_pos l c hk
    obtain ⟨h3, h4⟩ := pay_lev c e
    rw [← h2, h3, ← h1]
    refine ⟨?_, h e he⟩
    unfold L; rw [if_pos h4]; exact Finset.mem_range.mpr (lev_lt e)

/-! ## What the semaphores' units hand over -/

variable (D : Data F)

/-- A message slot, at any contents. -/
def slotA (b : Bool) (s : Fin 4) (c : Dev nD) : sProp 𝕄 := iprop(∃ X, owns (c : Thread nD τ) (cS b s) fullShare X)

instance slotA_storable (b : Bool) (s : Fin 4) (c : Dev nD) : Storable (upEmb : UEmb _ 𝕄) (slotA (F := F) b s c) := by
  unfold slotA; infer_instance

abbrev key (b : Bool) (s : Fin 4) (c : Dev nD) : Key := (c, b, s)

/-- Credit `i` of the ring: the slot downstream is free for message `4 + i`, its semaphore ready for it. -/
def fact (b : Bool) (c : Dev nD) (i : ℕ) : sProp 𝕄 :=
  iprop(released ES (key b (sl i) (tgt b c)) (i / 4 + 1) ∗ reached ER (rcvC b (sl i) (tgt b c)) (i / 4 + 1))

instance fact_persistent (b : Bool) (c : Dev nD) (i : ℕ) : Persistent (fact (F := F) b c i) := by unfold fact; infer_instance
instance fact_storable (b : Bool) (c : Dev nD) (i : ℕ) : Storable (upEmb : UEmb _ 𝕄) (fact (F := F) b c i) := by
  unfold fact; infer_instance

def facts (b : Bool) (c : Dev nD) (n : ℕ) : sProp 𝕄 := bigSep (Finset.range n) (fact b c)

instance facts_persistent (b : Bool) (c : Dev nD) (n : ℕ) : Persistent (facts (F := F) b c n) := by unfold facts; infer_instance
instance facts_storable (b : Bool) (c : Dev nD) (n : ℕ) : Storable (upEmb : UEmb _ 𝕄) (facts (F := F) b c n) := by
  unfold facts; infer_instance

/-- What the source of message `j` is while it travels: a converted chunk, or a message slot; the slots that
    are also copied out while their message travels are lent by half. -/
def srcO (b : Bool) (j : ℕ) (c : Dev nD) : sProp 𝕄 :=
  if j % 6 < 2 then owns (c : Thread nD τ) (vS b (s2 j)) fullShare (sent D b j c)
  else owns (c : Thread nD τ) (cS b (sl (j + 2))) (if j < 8 then fullShare else fullShare.left) (sent D b j c)

instance srcO_storable (b : Bool) (j : ℕ) (c : Dev nD) : Storable (upEmb : UEmb _ 𝕄) (srcO D b j c) := by
  unfold srcO; split <;> infer_instance

/-- A message arrived. -/
abbrev arr (b : Bool) (j : ℕ) (c : Dev nD) : sProp 𝕄 := owns (c : Thread nD τ) (cS b (sl j)) fullShare (rcvd D b j c)

/-- What a device's neighbour in direction `b` tells it before the first message: that neighbour's slots of
    this ring, ready, and that it takes credits of the other ring. -/
def barP (b : Bool) (c : Dev nD) : sProp 𝕄 :=
  iprop((bigSep Finset.univ fun s : Fin 4 => iprop(slotA b s (tgt b c) ∗ reached ER (rcvC b s (tgt b c)) 0))
    ∗ reached ER (crdC (!b) (tgt b c)) 0)

instance barP_storable (b : Bool) (c : Dev nD) : Storable (upEmb : UEmb _ 𝕄) (barP (F := F) b c) := by
  unfold barP; infer_instance

def sch : Schedule (GSem nD τ sig) ℕ 𝕄 where
  duties g r := match role g.2 with
    | .bar => if r = 0 then {0, 1} else ∅
    | .crd _ => if r = 0 then Finset.range 8 else ∅
    | .snd _ _ => if r < 3 then {0} else ∅
    | .rcv _ _ => if r < 3 then {0} else ∅
    | .other => ∅
  amount g r d := match role g.2 with
    | .snd _ _ => N
    | .rcv _ _ => N
    | _ => 1
  payload g r d := match role g.2 with
    | .bar => barP (d = 0) g.1.1
    | .crd b => facts b g.1.1 (d + 1)
    | .snd b s => srcO D b (s.val + 4 * r) g.1.1
    | .rcv b s => arr D b (s.val + 4 * r) g.1.1
    | .other => iprop(emp)
  amount_pos g r d _ := by split <;> first | exact N_pos | exact Nat.one_pos

instance sch_storable (g : GSem nD τ sig) (r d : ℕ) : Storable (upEmb : UEmb _ 𝕄) ((sch D).payload g r d) := by
  unfold sch; dsimp only; split <;> infer_instance

theorem duties_bar (c : Dev nD) : (sch D).duties (barC c) 0 = {0, 1} := rfl
theorem duties_bar' (c : Dev nD) (r : ℕ) (h : 1 ≤ r) : (sch D).duties (barC c) r = ∅ := if_neg (by omega)
theorem duties_crd (b : Bool) (c : Dev nD) : (sch D).duties (crdC b c) 0 = Finset.range 8 := by cases b <;> rfl
theorem duties_crd' (b : Bool) (c : Dev nD) (r : ℕ) (h : 1 ≤ r) : (sch D).duties (crdC b c) r = ∅ := by
  cases b <;> exact if_neg (by omega)
theorem duties_snd (b : Bool) (s : Fin 4) (c : Dev nD) (r : ℕ) : (sch D).duties (sndC b s c) r = if r < 3 then {0} else ∅ := by
  simp only [sch, role_snd]
theorem duties_rcv (b : Bool) (s : Fin 4) (c : Dev nD) (r : ℕ) : (sch D).duties (rcvC b s c) r = if r < 3 then {0} else ∅ := by
  simp only [sch, role_rcv]
theorem amount_snd (b : Bool) (s : Fin 4) (c : Dev nD) (r d : ℕ) : (sch D).amount (sndC b s c) r d = N := by simp only [sch, role_snd]
theorem amount_rcv (b : Bool) (s : Fin 4) (c : Dev nD) (r d : ℕ) : (sch D).amount (rcvC b s c) r d = N := by simp only [sch, role_rcv]
theorem amount_crd (b : Bool) (c : Dev nD) (r d : ℕ) : (sch D).amount (crdC b c) r d = 1 := by simp only [sch, role_crd]
theorem amount_bar (c : Dev nD) (r d : ℕ) : (sch D).amount (barC c) r d = 1 := rfl
theorem payload_snd (b : Bool) (s : Fin 4) (c : Dev nD) (r d : ℕ) : (sch D).payload (sndC b s c) r d = srcO D b (s.val + 4 * r) c := by
  simp only [sch, role_snd]
theorem payload_rcv (b : Bool) (s : Fin 4) (c : Dev nD) (r d : ℕ) : (sch D).payload (rcvC b s c) r d = arr D b (s.val + 4 * r) c := by
  simp only [sch, role_rcv]
theorem payload_crd (b : Bool) (c : Dev nD) (r d : ℕ) : (sch D).payload (crdC b c) r d = facts b c (d + 1) := by simp only [sch, role_crd]
theorem payload_bar (c : Dev nD) (r d : ℕ) : (sch D).payload (barC c) r d = barP (d = 0) c := rfl

theorem expect_snd (b : Bool) (s : Fin 4) (c : Dev nD) (r : ℕ) (h : r < 3) : (sch D).expect (sndC b s c) r = N := by
  unfold Schedule.expect Schedule.amountOf; rw [duties_snd, if_pos h, Finset.sum_singleton, amount_snd]
theorem expect_rcv (b : Bool) (s : Fin 4) (c : Dev nD) (r : ℕ) (h : r < 3) : (sch D).expect (rcvC b s c) r = N := by
  unfold Schedule.expect Schedule.amountOf; rw [duties_rcv, if_pos h, Finset.sum_singleton, amount_rcv]
theorem expect_crd (b : Bool) (c : Dev nD) : (sch D).expect (crdC b c) 0 = 8 := by
  unfold Schedule.expect Schedule.amountOf; rw [duties_crd]; simp only [amount_crd]; rfl
theorem expect_bar (c : Dev nD) : (sch D).expect (barC c) 0 = 2 := rfl

/-! ## The cells and what everyone knows of them -/

/-- The protocol's semaphores. -/
def pS (i : Fin 19) : SemLoc sig :=
  if h : i.val < 16 then .dma ⟨1 + i.val, by show 1 + i.val < 21; omega⟩ else .reg ⟨i.val - 16, by show i.val - 16 < 3; omega⟩

def pC (x : Dev nD × Fin 19) : GSem nD τ sig := ((x.1 : Thread nD τ), pS x.2)

def cells : Finset (GSem nD τ sig) := Finset.univ.image pC

theorem mem_cells (c : Dev nD) (s : SemLoc sig) (h : ∃ i, pS i = s) : ((c : Thread nD τ), s) ∈ cells := by
  obtain ⟨i, rfl⟩ := h; exact Finset.mem_image_of_mem pC (Finset.mem_univ (c, i))
theorem snd_mem (b : Bool) (s : Fin 4) (c : Dev nD) : sndC b s c ∈ cells := mem_cells c _ (by revert b s; decide)
theorem rcv_mem (b : Bool) (s : Fin 4) (c : Dev nD) : rcvC b s c ∈ cells := mem_cells c _ (by revert b s; decide)
theorem crd_mem (b : Bool) (c : Dev nD) : crdC b c ∈ cells := mem_cells c _ (by revert b; decide)
theorem bar_mem (c : Dev nD) : barC c ∈ cells := mem_cells c _ (by decide)

/-- One summand of a separating conjunction. -/
theorem pick {I : Type} [DecidableEq I] {S : Finset I} {i : I} (h : i ∈ S) {Φ : I → sProp 𝕄} : bigSep S Φ ⊢ Φ i := bigSep_elim h

/-- What every device knows throughout: the cells' invariants, the slots' invariants, the levels. -/
def ctx (κ : GSem nD τ sig → ℕ) (ks : Key → ℕ) : sProp 𝕄 :=
  iprop((bigSep cells fun g => cellInv ER (sch D) (κ g) g)
    ∗ (bigSep Finset.univ fun k : Key => slotInv ES (ks k) k (slotA k.2.1 k.2.2 k.1))
    ∗ levAts (L 21) lv)

instance ctx_persistent (κ : GSem nD τ sig → ℕ) (ks : Key → ℕ) : Persistent (ctx D κ ks) := by unfold ctx; infer_instance

variable {κ : GSem nD τ sig → ℕ} {ks : Key → ℕ}

theorem ctx_inv {g : GSem nD τ sig} (h : g ∈ cells) : ctx D κ ks ⊢ cellInv ER (sch D) (κ g) g := by
  unfold ctx; iintro ⟨H, -, -⟩
  iapply (pick (Φ := fun g => cellInv ER (sch D) (κ g) g) h) $$ H
theorem ctx_slot (k : Key) : ctx D κ ks ⊢ slotInv ES (ks k) k (slotA k.2.1 k.2.2 k.1) := by
  unfold ctx; iintro ⟨-, H, -⟩
  iapply (pick (Φ := fun k : Key => slotInv ES (ks k) k (slotA k.2.1 k.2.2 k.1)) (Finset.mem_univ k)) $$ H
theorem ctx_lev : ctx D κ ks ⊢ levAts (L 21) lv := by unfold ctx; iintro ⟨-, -, H⟩; iexact H

end Cert.RingProof
-- ==== Proof.Memory.lean ====
/-
# 01_k — loads, stores and local copies

Each step is stated for the memrefs the kernel names: a slot, a staging buffer, half of the accumulator.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mayWait_of)

variable {F : FTy → Type} [FloatOps F]

local notation "𝕄" => MT nD τ sig ℕ (Elt F) ℕ UU ℕ

/-- The device `c` runs `p`, and ends with `Q`. -/
abbrev WP {α : Type} (c : Dev nD) (p : Prog (TpuEff nD τ sig (Elt F) Λ₀ .tc) α) (Q : α → sProp 𝕄) : sProp 𝕄 :=
  wp frame (wpE defs₀ 𝒱₀ (c : Thread nD τ) none) Set.univ p Q

variable {α : Type} {c : Dev nD} {Q : α → sProp (MT nD τ sig ℕ (Elt F) ℕ UU ℕ)}

/-! ## Loads and stores -/

section Access

variable {cs : CoreSpace} {sh : Shape} {e : EltTy} {m : Memref sig .tc cs sh e} {r : Rect sh} {hr : ∀ a, r.stride a = 1}

theorem load_own {q : PosShare TreeShare} {X : r.shape.Idx → Elt F e} {hl : m.view.LoadsAt r.toLoadRect}
    {k : (r.shape.Idx → Elt F e) → Prog (TpuEff nD τ sig (Elt F) Λ₀ .tc) α} :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  have e1 : (m.access r).read (Elt F) f = X := hf
  rw [e1]
  iapply Hk
  iexists f; isplitr; · ipureintro; exact hf
  iexact H

theorem store_own {X w : r.shape.Idx → Elt F e} {hx : (m.access r).Stores Finset.univ} {hm : Finset.univ = Finset.univ ∨ ∀ a, r.stride a = 1}
    {k : PUnit → Prog (TpuEff nD τ sig (Elt F) Λ₀ .tc) α} :
    (owns (c : Thread nD τ) (m.slice r hr) fullShare X : sProp 𝕄)
      ⊢ iprop((owns (c : Thread nD τ) (m.slice r hr) fullShare w -∗ WP c (k ⟨⟩) Q) -∗ WP c (.op (.store m r w Finset.univ hx hm) k) Q) := by
  unfold owns
  iintro ⟨%f, %hf, H⟩ Hk
  iapply (wp_store 𝒱₀ (c : Thread nD τ) none Set.univ (m := m) (r := r) (w := w) (Mk := Finset.univ)
    (S := (m.slice r hr).view.set) (f := f) (View.setOn_subset_set _ _)) $$ H
  iintro H
  iapply Hk
  iexists ((m.access r).write (Elt F) f w Finset.univ); isplitr
  · ipureintro; exact View.read_write_univ (Val := Elt F) (v := m.access r) f w
  iexact H

end Access

theorem off00 : (![0, 0] : Fin 2 → ℕ) = fun _ => 0 := by funext a; revert a; decide

section Whole

variable {b : Ref sig .tc} {cs : CoreSpace} {sh : Shape} {e : EltTy}

theorem load_st (b : Bool) {q : PosShare TreeShare} {X : Vec F S512x2048 .f32} {inb} {hl}
    {k : Vec F S512x2048 .f32 → Prog (TpuEff nD τ sig (Elt F) Λ₀ .tc) α} :
    (owns (c : Thread nD τ) (sM b) q X : sProp 𝕄)
      ⊢ iprop((owns (c : Thread nD τ) (sM b) q X -∗ WP c (k X) Q)
        -∗ WP c (.op (.load (sM b) (Rect.unit (s := S512x2048) ![0, 0] S512x2048.size inb).toLoadRect hl) k) Q) := by
  unfold owns
  iintro ⟨%f, %hf, H⟩ Hk
  iapply (wp_load_rect 𝒱₀ (c : Thread nD τ) none Set.univ (m := sM b) (r := Rect.unit (s := S512x2048) ![0, 0] S512x2048.size inb)
    (View.set_slice_subset _ _)) $$ H
  iintro H
  have e1 : ((sM b).access (Rect.unit (s := S512x2048) ![0, 0] S512x2048.size inb)).read (Elt F) f = X := by
    rw [← hf]; cases b
    · exact Memref.readAt_unit_zero (Elt F) cc0_scratch4 (off := ![0, 0]) off00 _ f
    · exact Memref.readAt_unit_zero (Elt F) cc0_scratch3 (off := ![0, 0]) off00 _ f
  rw [e1]
  iapply Hk
  iexists f; isplitr; · ipureintro; exact hf
  iexact H

theorem store_st (b : Bool) {X w : Vec F S512x2048 .f32} {inb} {hx} {hm}
    {k : PUnit → Prog (TpuEff nD τ sig (Elt F) Λ₀ .tc) α} :
    (owns (c : Thread nD τ) (sM b) fullShare X : sProp 𝕄)
      ⊢ iprop((owns (c : Thread nD τ) (sM b) fullShare w -∗ WP c (k ⟨⟩) Q)
        -∗ WP c (.op (.store (sM b) (Rect.unit (s := S512x2048) ![0, 0] S512x2048.size inb) w Finset.univ hx hm) k) Q) := by
  unfold owns
  iintro ⟨%f, %hf, H⟩ Hk
  iapply (wp_store 𝒱₀ (c : Thread nD τ) none Set.univ (m := sM b) (r := Rect.unit (s := S512x2048) ![0, 0] S512x2048.size inb)
    (w := w) (Mk := Finset.univ) (View.set_slice_subset _ _)) $$ H
  iintro H
  iapply Hk
  iexists ((sM b).access (Rect.unit (s := S512x2048) ![0, 0] S512x2048.size inb)).write (Elt F) f w Finset.univ; isplitr
  · ipureintro; cases b
    · exact (View.read_whole (Val := Elt F) cc0_scratch4 _).trans (Memref.write_access_unit_zero_univ (Elt F) cc0_scratch4 (off := ![0, 0]) off00 inb f w)
    · exact (View.read_whole (Val := Elt F) cc0_scratch3 _).trans (Memref.write_access_unit_zero_univ (Elt F) cc0_scratch3 (off := ![0, 0]) off00 inb f w)
  iexact H

theorem load_gamma {q : PosShare TreeShare} {X : Vec F S1x4096 .f32} {inb} {hl}
    {k : Vec F S1x4096 .f32 → Prog (TpuEff nD τ sig (Elt F) Λ₀ .tc) α} :
    (owns (c : Thread nD τ) wM q X : sProp 𝕄)
      ⊢ iprop((owns (c : Thread nD τ) wM q X -∗ WP c (k X) Q)
        -∗ WP c (.op (.load wM (Rect.unit (s := S1x4096) ![0, 0] S1x4096.size inb).toLoadRect hl) k) Q) := by
  unfold owns
  iintro ⟨%f, %hf, H⟩ Hk
  iapply (wp_load_rect 𝒱₀ (c : Thread nD τ) none Set.univ (m := wM) (r := Rect.unit (s := S1x4096) ![0, 0] S1x4096.size inb)
    (View.set_slice_subset _ _)) $$ H
  iintro H
  have e1 : (wM.access (Rect.unit (s := S1x4096) ![0, 0] S1x4096.size inb)).read (Elt F) f = X := by
    rw [← hf]; exact Memref.readAt_unit_zero (Elt F) cc0_stg0_0 (off := ![0, 0]) off00 _ f
  rw [e1]
  iapply Hk
  iexists f; isplitr; · ipureintro; exact hf
  iexact H

end Whole

/-! ## The accumulator -/

/-- The part of a block that starts at a given row and column, -/
def part {n k : ℕ} (r₀ c₀ : ℕ) (hr : r₀ + n ≤ 512) (hc : c₀ + k ≤ 4096) (A : Vec F S512x4096 .f32) : Vec F ⟨2, ![n, k]⟩ .f32 :=
  fun j => A (at2 (r₀ + (j 0).val) (c₀ + (j 1).val) (by have : (j 0).val < n := (j 0).isLt; omega)
    (by have : (j 1).val < k := (j 1).isLt; omega))

/-- and the block with that part replaced. -/
def putPart {n k : ℕ} (r₀ c₀ : ℕ) (A : Vec F S512x4096 .f32) (Z : Vec F ⟨2, ![n, k]⟩ .f32) : Vec F S512x4096 .f32 :=
  fun i => if h : (r₀ ≤ (i 0).val ∧ (i 0).val - r₀ < n) ∧ (c₀ ≤ (i 1).val ∧ (i 1).val - c₀ < k) then
      Z (at2 ((i 0).val - r₀) ((i 1).val - c₀) h.1.2 h.2.2)
    else A i

theorem at2_eta {n k : ℕ} (i : (⟨2, ![n, k]⟩ : Shape).Idx) (h0 : (i 0).val < n) (h1 : (i 1).val < k) :
    at2 (i 0).val (i 1).val h0 h1 = i := by
  funext a; revert a; exact Fin.forall_fin_two.mpr ⟨rfl, rfl⟩

section Acc

variable {n k : ℕ} {s : Fin 2} {r₀ c₀ : ℕ} (hr : r₀ + n ≤ 512) (hc : c₀ + k ≤ 4096)
  {off : Fin 2 → ℕ} (ho : off = ![512 * s.val + r₀, c₀]) {inb : ∀ a, off a + (![n, k] : Fin 2 → ℕ) a ≤ S1024x4096.size a}

include hr hc ho in
theorem acc_emb (j : (⟨2, ![n, k]⟩ : Shape).Idx) (h0) (h1) :
    (aM.access (Rect.unit (s := S1024x4096) off ![n, k] inb)).emb j
      = (aS s).view.emb (at2 (r₀ + (j 0).val) (c₀ + (j 1).val) h0 h1) := by
  subst ho
  funext a; revert a
  refine Fin.forall_fin_two.mpr ⟨Fin.ext ?_, Fin.ext ?_⟩
  · show 512 * s.val + r₀ + 1 * (j 0).val = 512 * s.val + 1 * (r₀ + (j 0).val); omega
  · show c₀ + 1 * (j 1).val = 0 + 1 * (c₀ + (j 1).val); omega

include hr hc ho in
theorem acc_sub : (aM.access (Rect.unit (s := S1024x4096) off ![n, k] inb)).set ⊆ (aS s).view.set := by
  intro i hi
  obtain ⟨j, -, rfl⟩ := Finset.mem_map.mp hi
  have h0 : (j 0).val < n := (j 0).isLt
  have h1 : (j 1).val < k := (j 1).isLt
  rw [acc_emb hr hc ho j (by omega) (by omega)]
  exact View.emb_mem_set _ _

include hr hc ho in
theorem load_acc {q : PosShare TreeShare} {A : Vec F S512x4096 .f32} {hl}
    {K : Vec F ⟨2, ![n, k]⟩ .f32 → Prog (TpuEff nD τ sig (Elt F) Λ₀ .tc) α} :
    (owns (c : Thread nD τ) (aS s) q A : sProp 𝕄)
      ⊢ iprop((owns (c : Thread nD τ) (aS s) q A -∗ WP c (K (part r₀ c₀ hr hc A)) Q)
        -∗ WP c (.op (.load aM (Rect.unit (s := S1024x4096) off ![n, k] inb).toLoadRect hl) K) Q) := by
  unfold owns
  iintro ⟨%f, %hf, H⟩ Hk
  iapply (wp_load_rect 𝒱₀ (c : Thread nD τ) none Set.univ (m := aM) (r := Rect.unit (s := S1024x4096) off ![n, k] inb)
    (acc_sub hr hc ho)) $$ H
  iintro H
  have e1 : (aM.access (Rect.unit (s := S1024x4096) off ![n, k] inb)).read (Elt F) f = part r₀ c₀ hr hc A := by
    rw [← hf]; funext j
    show f ((aM.access (Rect.unit (s := S1024x4096) off ![n, k] inb)).emb j) = f ((aS s).view.emb _)
    rw [acc_emb hr hc ho j]
  rw [e1]
  iapply Hk
  iexists f; isplitr; · ipureintro; exact hf
  iexact H

include hr hc ho in
theorem store_acc {A : Vec F S512x4096 .f32} {Z : Vec F ⟨2, ![n, k]⟩ .f32} {hx} {hm}
    {K : PUnit → Prog (TpuEff nD τ sig (Elt F) Λ₀ .tc) α} :
    (owns (c : Thread nD τ) (aS s) fullShare A : sProp 𝕄)
      ⊢ iprop((owns (c : Thread nD τ) (aS s) fullShare (putPart r₀ c₀ A Z) -∗ WP c (K ⟨⟩) Q)
        -∗ WP c (.op (.store aM (Rect.unit (s := S1024x4096) off ![n, k] inb) Z Finset.univ hx hm) K) Q) := by
  unfold owns
  iintro ⟨%f, %hf, H⟩ Hk
  iapply (wp_store 𝒱₀ (c : Thread nD τ) none Set.univ (m := aM) (r := Rect.unit (s := S1024x4096) off ![n, k] inb)
    (acc_sub hr hc ho)) $$ H
  iintro H
  iapply Hk
  iexists ((aM.access (Rect.unit (s := S1024x4096) off ![n, k] inb)).write (Elt F) f Z Finset.univ); isplitr
  · ipureintro; rw [← hf]; funext i
    have hi0 : (i 0).val < 512 := (i 0).isLt
    have hi1 : (i 1).val < 4096 := (i 1).isLt
    show (aM.access (Rect.unit (s := S1024x4096) off ![n, k] inb)).write (Elt F) f Z Finset.univ ((aS s).view.emb i) = _
    unfold putPart
    split
    · rename_i h
      have hj := acc_emb (inb := inb) hr hc ho (at2 ((i 0).val - r₀) ((i 1).val - c₀) h.1.2 h.2.2)
        (by show r₀ + ((i 0).val - r₀) < 512; omega) (by show c₀ + ((i 1).val - c₀) < 4096; omega)
      have hi : at2 (n := 512) (k := 4096) (r₀ + ((i 0).val - r₀)) (c₀ + ((i 1).val - c₀)) (by omega) (by omega) = i := by
        funext a; revert a
        refine Fin.forall_fin_two.mpr ⟨Fin.ext ?_, Fin.ext ?_⟩
        · show r₀ + ((i 0).val - r₀) = _; omega
        · show c₀ + ((i 1).val - c₀) = _; omega
      have hj' : (aM.access (Rect.unit (s := S1024x4096) off ![n, k] inb)).emb (at2 ((i 0).val - r₀) ((i 1).val - c₀) h.1.2 h.2.2)
          = (aS s).view.emb i := hj.trans (congrArg _ hi)
      rw [← hj']
      exact congrFun (View.read_write_univ (Val := Elt F) (v := aM.access (Rect.unit (s := S1024x4096) off ![n, k] inb)) f Z) _
    · rename_i h
      refine (View.write_of_not_mem (Val := Elt F) _ _ _ ?_).trans rfl
      rintro hmem
      obtain ⟨j, -, hj⟩ := Finset.mem_map.mp hmem
      have h0 : (j 0).val < n := (j 0).isLt
      have h1 : (j 1).val < k := (j 1).isLt
      rw [acc_emb (inb := inb) hr hc ho j (by omega) (by omega)] at hj
      have := (aS s).view.emb.injective hj
      have e0 : r₀ + (j 0).val = (i 0).val := congrArg Fin.val (congrFun this 0)
      have e1 : c₀ + (j 1).val = (i 1).val := congrArg Fin.val (congrFun this 1)
      exact h ⟨⟨by omega, by omega⟩, ⟨by omega, by omega⟩⟩
  iexact H

end Acc

end Cert.RingProof
-- ==== Proof.Copies.lean ====
/-
# 01_k — copies within a device

A copy of the device's own is waited for before anything else is copied onto its semaphore, so while it is
under way its semaphore, its source and its destination are put away in one assertion.
-/
module

public import proofs.«01_k».proof.Proof.Memory

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

/-- What the device still owes once it has made its first `n` payments. -/
def owesN (c : Dev nD) (n : ℕ) : sProp 𝕄 := iprop(∃ W, owes (c : Thread nD τ) (payL (evs.drop n) c) W)

theorem lev_pos (e : Ev) : 0 < e.lev := by
  cases e with
  | bar b => exact Nat.one_pos
  | msg b j => show 0 < lvM j; unfold lvM; split <;> omega
  | crd b k => show 0 < lvK k; unfold lvK; split <;> omega

/-- A copy of the device's own is under way on semaphore `s`; once it has been waited for, `P` holds. -/
def busy (c : Dev nD) (s : DmaSem sig) (n : ℕ) (P : sProp 𝕄) : sProp 𝕄 :=
  iprop(∃ A : sProp 𝕄, ∃ R : sProp 𝕄, Flight EC (c : Thread nD τ) (.dma s) 0 n A ∗ R
    ∗ ⌜iprop(A ∗ R ∗ semVal ((c : Thread nD τ), SemLoc.dma s) 0) ⊢ P⌝)

theorem busy_frame {s : DmaSem sig} {n : ℕ} {P P' R' : sProp 𝕄} (h : iprop(P ∗ R') ⊢ P') : iprop(busy c s n P ∗ R') ⊢ busy c s n P' := by
  unfold busy
  iintro ⟨⟨%A, %R, HF, HR, %hP⟩, HR'⟩
  iexists A, iprop(R ∗ R')
  isplitl [HF]; · iexact HF
  isplitl [HR HR']; · isplitl [HR] <;> iassumption
  ipureintro
  iintro ⟨HA, ⟨HR, HR'⟩, HV⟩
  iapply h
  isplitr [HR']
  · iapply hP
    isplitl [HA]; · iexact HA
    isplitl [HR] <;> iassumption
  · iexact HR'

theorem copy_here {sp sp' : Space} {sh : Shape} {e : EltTy} {m₁ : Memref sig .tc sp sh e} {m₂ : Memref sig .tc sp' sh e} {s : DmaSem sig}
    {h1 : m₁.view.WordExact} {h2 : m₂.view.WordExact} {h3} {q : PosShare TreeShare} {A X : sh.Idx → Elt F e} (hp : 0 < sh.numel)
    {k : PUnit → Prog (TpuEff nD τ sig (Elt F) Λ₀ .tc) α} :
    iprop(owns (c : Thread nD τ) m₁ q A ∗ owns (c : Thread nD τ) m₂ fullShare X ∗ semVal ((c : Thread nD τ), SemLoc.dma s) 0)
      ⊢ iprop((busy c s m₂.view.dmaCredit iprop(owns (c : Thread nD τ) m₁ q A ∗ owns (c : Thread nD τ) m₂ fullShare A
            ∗ semVal ((c : Thread nD τ), SemLoc.dma s) 0) -∗ WP c (k ⟨⟩) Q)
        -∗ WP c (.op (.enqueueDma m₁ (.here m₂) (.dma s) h1 h2 h3) k) Q) := by
  unfold owns
  iintro ⟨⟨%f, %hf, H1⟩, ⟨%g, %hg, H2⟩, HV⟩ Hk
  iapply (wp_dmaLocal EC 𝒱₀ (c : Thread nD τ) none (src := m₁) (dst := m₂) (via := .same) 0 m₂.view.dmaCredit rfl
    (View.dmaCredit_pos _ hp) (Finset.Subset.refl _)) $$ [H1 H2 HV]
  · isplitl [H1]; · iexact H1
    isplitl [H2] <;> iassumption
  iintro HF
  iapply Hk
  unfold busy
  iexists _, iprop(emp)
  isplitl [HF]; · iexact HF
  isplitr; · iempintro
  ipureintro
  iintro ⟨⟨H2, H1⟩, -, HV⟩
  isplitl [H1]
  · iexists f; isplitr; · ipureintro; exact hf
    iexact H1
  isplitl [H2]
  · iexists _; isplitr
    · ipureintro; exact (View.read_write_univ (Val := Elt F) (v := m₂.view) g _).trans hf
    iexact H2
  iexact HV

theorem wait_here (n : ℕ) {D : Data F} {κ : GSem nD τ sig → ℕ} {ks : Key → ℕ} {s : DmaSem sig} {N : ℕ} {P : sProp 𝕄} {sp sp' : Space} {sh sh' : Shape} {e e' : EltTy}
    {m₁ : Memref sig .tc sp sh e} {m₂ : Memref sig .tc sp' sh' e'} (hN : m₂.view.dmaCredit = N)
    {h1 : m₁.view.WordExact} {h2 : m₂.view.WordExact} {k : PUnit → Prog (TpuEff nD τ sig (Elt F) Λ₀ .tc) α} :
    iprop(busy c s N P ∗ ctx D κ ks ∗ owesN c n)
      ⊢ iprop((iprop(P ∗ owesN c n) -∗ WP c (k ⟨⟩) Q) -∗ WP c (.op (.waitDma2 s m₁ m₂ h1 h2) k) Q) := by
  unfold busy owesN
  iintro ⟨⟨%A, %R, HF, HR, %hP⟩, HC, %W, HO⟩ Hk
  ihave HL := (ctx_lev D) $$ HC
  ihave HM := (may_wait (F := F) (evs.drop n) 0 (fun e _ => lev_pos e) (by decide) c (.dma s)) $$ HL
  iapply (wp_waitLocalO EC 𝒱₀ (c : Thread nD τ) none 0 hN) $$ [HF HO HM]
  · isplitl [HF]; · iexact HF
    isplitl [HO] <;> iassumption
  iintro ⟨HA, HV, HO⟩
  iapply Hk
  isplitr [HO]
  · iapply hP
    isplitl [HA]; · iexact HA
    isplitl [HR] <;> iassumption
  · iexists _; iexact HO

/-! ## Staging -/

/-- A ring's share of the inputs. -/
def inShare (b : Bool) : PosShare TreeShare := cond b fullShare.left fullShare.right

def inp (D : Data F) (b : Bool) (c : Dev nD) : sProp 𝕄 :=
  iprop(owns (c : Thread nD τ) xM (inShare b) (D.x c) ∗ owns (c : Thread nD τ) gM (inShare b) (D.g c))

/-- A ring's staging buffer at rest, holding `Y`. -/
def idle (D : Data F) (b : Bool) (c : Dev nD) (Y : Vec F S512x2048 .f32) : sProp 𝕄 :=
  iprop(inp D b c ∗ owns (c : Thread nD τ) (sM b) fullShare Y ∗ semVal ((c : Thread nD τ), SemLoc.dma (stgS b)) 0)

/-- A copy out of some of the rows of a buffer that is only read. -/
theorem copy_out {sp sp' : Space} {sh : Shape} {e : EltTy} {p : Memref sig .tc sp sh e} {m₂ : Memref sig .tc sp' sh e} {s : DmaSem sig}
    {h1 : p.view.WordExact} {h2 : m₂.view.WordExact} {h3} {q : PosShare TreeShare} {X : sh.Idx → Elt F e} (hp : 0 < sh.numel)
    {f : Buf (Elt F) (p.view.loc (c : Thread nD τ))} {S : Finset (Idx (p.view.loc (c : Thread nD τ)))} (hS : p.view.set ⊆ S)
    {k : PUnit → Prog (TpuEff nD τ sig (Elt F) Λ₀ .tc) α} :
    iprop((p.view.loc (c : Thread nD τ) ↦[S]{q} f) ∗ owns (c : Thread nD τ) m₂ fullShare X ∗ semVal ((c : Thread nD τ), SemLoc.dma s) 0)
      ⊢ iprop((busy c s m₂.view.dmaCredit iprop((p.view.loc (c : Thread nD τ) ↦[S]{q} f)
            ∗ owns (c : Thread nD τ) m₂ fullShare (p.view.read (Elt F) f)
            ∗ semVal ((c : Thread nD τ), SemLoc.dma s) 0) -∗ WP c (k ⟨⟩) Q)
        -∗ WP c (.op (.enqueueDma p (.here m₂) (.dma s) h1 h2 h3) k) Q) := by
  unfold owns
  iintro ⟨H1, ⟨%g, %hg, H2⟩, HV⟩ Hk
  ihave H1 := (pointsTo_split_subset hS).1 $$ H1
  icases H1 with ⟨H1, HR⟩
  iapply (wp_dmaLocal EC 𝒱₀ (c : Thread nD τ) none (src := p) (dst := m₂) (via := .same) 0 m₂.view.dmaCredit rfl
    (View.dmaCredit_pos _ hp) (Finset.Subset.refl _)) $$ [H1 H2 HV]
  · isplitl [H1]; · iexact H1
    isplitl [H2] <;> iassumption
  iintro HF
  iapply Hk
  unfold busy
  iexists _, _
  isplitl [HF]; · iexact HF
  isplitl [HR]; · iexact HR
  ipureintro
  iintro ⟨⟨H2, H1⟩, HR, HV⟩
  isplitl [H1 HR]
  · iapply (pointsTo_split_subset hS).2
    isplitl [H1] <;> iassumption
  isplitl [H2]
  · iexists _; isplitr
    · ipureintro; exact View.read_write_univ (Val := Elt F) (v := m₂.view) g _
    iexact H2
  iexact HV

theorem fetch_x (D : Data F) (b : Bool) (k : Fin 4) (s : Fin 2) {Y : Vec F S512x2048 .f32} {off : Fin 3 → ℕ} (hoff : off = ![0, row c k s, col b])
    {inb} {h1} {h2} {h3} {K : PUnit → Prog (TpuEff nD τ sig (Elt F) Λ₀ .tc) α} :
    idle D b c Y ⊢ iprop((busy c (stgS b) (sM b).view.dmaCredit (idle D b c (xV D b c k s)) -∗ WP c (K ⟨⟩) Q)
      -∗ WP c (.op (.enqueueDma (sq (xM.slice (Rect.unit (s := S1x4096x4096) off S1x512x2048.size inb) (fun _ => rfl))) (.here (sM b))
        (.dma (stgS b)) h1 h2 h3) K) Q) := by
  subst hoff
  unfold idle inp
  rw [owns_whole (c : Thread nD τ) main_arg0 (inShare b) (D.x c)]
  iintro ⟨⟨HX, HG⟩, HS, HV⟩ Hk
  iapply (copy_out (p := xP b c k s) (m₂ := sM b) (s := stgS b) (by decide) (Finset.subset_univ _)) $$ [HX HS HV]
  · isplitl [HX]; · iexact HX
    isplitl [HS] <;> iassumption
  iintro HB
  iapply Hk
  iapply (busy_frame (R' := owns (c : Thread nD τ) gM (inShare b) (D.g c)) ?_) $$ [HB HG]
  rotate_left
  · isplitl [HB] <;> iassumption
  iintro ⟨⟨HX, HS, HV⟩, HG⟩
  isplitl [HX HG]
  · isplitl [HX]; · iexact HX
    iexact HG
  isplitl [HS]; · iexact HS
  iexact HV

theorem fetch_g (D : Data F) (b : Bool) (k : Fin 4) (s : Fin 2) {Y : Vec F S512x2048 .f32} {off : Fin 2 → ℕ} (hoff : off = ![row c k s, col b])
    {inb} {h1} {h2} {h3} {K : PUnit → Prog (TpuEff nD τ sig (Elt F) Λ₀ .tc) α} :
    idle D b c Y ⊢ iprop((busy c (stgS b) (sM b).view.dmaCredit (idle D b c (gV D b c k s)) -∗ WP c (K ⟨⟩) Q)
      -∗ WP c (.op (.enqueueDma (gM.slice (Rect.unit (s := S4096x4096) off S512x2048.size inb) (fun _ => rfl)) (.here (sM b))
        (.dma (stgS b)) h1 h2 h3) K) Q) := by
  subst hoff
  unfold idle inp
  rw [owns_whole (c : Thread nD τ) main_arg1 (inShare b) (D.g c)]
  iintro ⟨⟨HX, HG⟩, HS, HV⟩ Hk
  iapply (copy_out (p := gP b c k s) (m₂ := sM b) (s := stgS b) (by decide) (Finset.subset_univ _)) $$ [HG HS HV]
  · isplitl [HG]; · iexact HG
    isplitl [HS] <;> iassumption
  iintro HB
  iapply Hk
  iapply (busy_frame (R' := owns (c : Thread nD τ) xM (inShare b) (D.x c)) ?_) $$ [HB HX]
  rotate_left
  · isplitl [HB] <;> iassumption
  iintro ⟨⟨HG, HS, HV⟩, HX⟩
  isplitl [HX HG]
  · isplitl [HX]; · iexact HX
    iexact HG
  isplitl [HS]; · iexact HS
  iexact HV

end Cert.RingProof
-- ==== Proof.Steps.lean ====
/-
# 01_k — the steps of a ring

What a device holds of each ring between two steps, counted by the messages it has started and received
and by the credits it has given and taken, and the rule of each step.
-/
module

public import proofs.«01_k».proof.Proof.Copies

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable {D : Data F} {κ : GSem nD τ sig → ℕ} {ks : Key → ℕ}

/-! ## Runs of consecutive numbers -/

theorem peel {a b : ℕ} (h : a < b) (Φ : ℕ → sProp 𝕄) :
    bigSep (Finset.Ico a b) Φ = iprop(Φ a ∗ bigSep (Finset.Ico (a + 1) b) Φ) := by
  have h1 : Finset.Ico a b = insert a (Finset.Ico (a + 1) b) := by
    ext x; simp only [Finset.mem_insert, Finset.mem_Ico]; omega
  rw [h1, bigSep_insert (by simp only [Finset.mem_Ico]; omega)]; rfl

theorem addTop {a b : ℕ} (h : a ≤ b) (Φ : ℕ → sProp 𝕄) :
    bigSep (Finset.Ico a (b + 1)) Φ = iprop(Φ b ∗ bigSep (Finset.Ico a b) Φ) := by
  have h1 : Finset.Ico a (b + 1) = insert b (Finset.Ico a b) := by
    ext x; simp only [Finset.mem_insert, Finset.mem_Ico]; omega
  rw [h1, bigSep_insert (by simp only [Finset.mem_Ico]; omega)]; rfl

theorem big_insert {I : Type} [DecidableEq I] {s : Finset I} {i : I} (h : i ∉ s) (Φ : I → sProp 𝕄) :
    bigSep (insert i s) Φ = iprop(Φ i ∗ bigSep s Φ) := bigSep_insert h

theorem sl_add (j : ℕ) : sl (j + 4) = sl j := Fin.ext (by simp only [sl]; omega)
theorem div_add (j : ℕ) : (j + 4) / 4 = j / 4 + 1 := by omega
theorem sl_num (j : ℕ) : (sl j).val + 4 * (j / 4) = j := by simp only [sl]; omega

/-! ## Shares of a buffer -/

theorem owns_half {sp : Space} {sh : Shape} {e : EltTy} {m : Memref sig .tc sp sh e} {X : sh.Idx → Elt F e} :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

theorem owns_join {sp : Space} {sh : Shape} {e : EltTy} {m : Memref sig .tc sp sh e} {X Y : sh.Idx → Elt F e} :
    iprop(owns (c : Thread nD τ) m fullShare.left X ∗ owns (c : Thread nD τ) m fullShare.right Y)
      ⊢ (owns (c : Thread nD τ) m fullShare X : sProp 𝕄) := by
  unfold owns
  iintro ⟨⟨%f, %hf, H1⟩, ⟨%g, %hg, H2⟩⟩
  icombine H1 H2 as H
  ihave H := (persistent_entails_right pointsTo_agree) $$ H
  icases H with ⟨%h, H1, H2⟩
  have e1 : (m.view.loc (c : Thread nD τ) ↦[m.view.set]{fullShare.right} g : sProp 𝕄)
      = (m.view.loc (c : Thread nD τ) ↦[m.view.set]{fullShare.right} f) :=
    pointsTo_congr fun i hi => (h i (Finset.mem_inter.mpr ⟨hi, hi⟩)).1.symm
  ihave H2 := (Entails.of_eq e1) $$ H2
  iexists f; isplitr; · ipureintro; exact hf
  iapply (pointsTo_share (PosShare.mem_left_op_right fullShare)).2
  isplitl [H1] <;> iassumption

theorem slot_one (b : Bool) (s : Fin 4) : iprop(slotA (F := F) b s c ∗ slotA b s c) ⊢ (False : sProp 𝕄) := by
  unfold slotA owns
  iintro ⟨⟨%X, %f, -, H1⟩, ⟨%Y, %g, -, H2⟩⟩
  have hi := View.emb_mem_set (cS b s).view (fun _ => ⟨0, by rename_i a; revert a; decide⟩)
  iapply (pointsTo_overlap_false (ℓ := (cS b s).view.loc (c : Thread nD τ)) (f := f) (g := g) hi hi)
  isplitl [H1] <;> iassumption

/-! ## Sending -/

/-- The right to send the messages from number `j` on. -/
def Start (b : Bool) (c : Dev nD) (j : ℕ) : sProp 𝕄 := bigSep (Finset.Ico j 12) fun i =>
  iprop(dutyTok ER (sndC b (sl i) c) (i / 4) 0 ∗ dutyTok ER (rcvC b (sl i) (tgt b c)) (i / 4) 0)

/-- The send semaphore is ready for message `j`, -/
def SndI (b : Bool) (c : Dev nD) (j : ℕ) : sProp 𝕄 :=
  iprop(atPos ER (sndC b (sl j) c) (j / 4) ∅ 0 ∗ reached ER (sndC b (sl j) c) (j / 4))
/-- or message `j` is on its way. -/
def SndB (b : Bool) (c : Dev nD) (j : ℕ) : sProp 𝕄 :=
  iprop(atPos ER (sndC b (sl j) c) (j / 4) ∅ 0 ∗ cred (tallyAt (sndC b (sl j) c) 0 N))

/-- The slot message `j` goes to is free. -/
def ready (b : Bool) (c : Dev nD) (j : ℕ) : sProp 𝕄 :=
  iprop(slotA b (sl j) (tgt b c) ∗ reached ER (rcvC b (sl j) (tgt b c)) (j / 4))

/-- What lands in a slot is what the source held. -/
theorem sq_copy {m m' : Memref sig .tc .vmem S1x512x2048 .bf16} (f) (g) :
    m'.view.read (Elt F) ((sq m').view.write (Elt F) g ((sq m).view.read (Elt F) f) Finset.univ) = m.view.read (Elt F) f := by
  have h := View.read_write_univ (Val := Elt F) (v := (sq m').view) g ((sq m).view.read (Elt F) f)
  funext i
  have h' := congrFun h ((Shape.reshapeEquiv (squeezes_S1x512x2048_S512x2048).numel_eq).symm i)
  have e1 : Shape.reshapeEquiv (squeezes_S1x512x2048_S512x2048).numel_eq
      ((Shape.reshapeEquiv (squeezes_S1x512x2048_S512x2048).numel_eq).symm i) = i := Equiv.apply_symm_apply _ _
  rw [← e1]; exact h'

theorem mem_snd (b : Bool) (c : Dev nD) (j : ℕ) (h : j < 12) : 0 ∈ (sch D).duties (sndC b (sl j) c) (j / 4) := by
  rw [duties_snd, if_pos (by omega)]; exact Finset.mem_singleton_self 0
theorem mem_rcv (b : Bool) (c : Dev nD) (j : ℕ) (h : j < 12) : 0 ∈ (sch D).duties (rcvC b (sl j) c) (j / 4) := by
  rw [duties_rcv, if_pos (by omega)]; exact Finset.mem_singleton_self 0

theorem start (b : Bool) (j n : ℕ) (hj : j < 12) (he : evs.drop n = .msg b j :: evs.drop (n + 1)) {m : Memref sig .tc .vmem S1x512x2048 .bf16}
    {q : PosShare TreeShare} (hm : (owns (c : Thread nD τ) m q (sent D b j c) : sProp 𝕄) ⊢ srcO D b j c)
    {d : Dev nD} (hd : d = tgt b c) {hsc} {h1} {h2} {h3} {k : PUnit → Prog (TpuEff nD τ sig (Elt F) Λ₀ .tc) α} :
    iprop(ctx D κ ks ∗ Start b c j ∗ SndI b c j ∗ owns (c : Thread nD τ) m q (sent D b j c) ∗ ready b c j ∗ owesN c n)
      ⊢ iprop((iprop(Start b c (j + 1) ∗ SndB b c j ∗ owesN c (n + 1)) -∗ WP c (k ⟨⟩) Q)
        -∗ WP c (.op (.enqueueDma (sq m) (.remote (Dev.tc d) (sq (cS b (sl j))) (.dma (sndS b (sl j))) hsc) (.dma (rcvS b (sl j))) h1 h2 h3) k) Q) := by
  subst hd
  unfold Start SndI ready owesN
  rw [peel hj, he]
  iintro ⟨#HC, ⟨⟨HT1, HT2⟩, HT⟩, ⟨HP, #HR1⟩, HS, ⟨HD, #HR2⟩, %W, HO⟩ Hk
  unfold slotA owns
  icases HS with ⟨%f, %hf, HS⟩
  icases HD with ⟨%X, %g, -, HD⟩
  ihave HI1 := (ctx_inv D (snd_mem b (sl j) c)) $$ HC
  ihave HI2 := (ctx_inv D (rcv_mem b (sl j) (tgt b c))) $$ HC
  have hs : (sq m).view.set = m.view.set := View.set_reshape _ _
  have hs' : (sq (cS b (sl j))).view.set = (cS b (sl j)).view.set := View.set_reshape _ _
  iapply (Rounds.wp_send_pointsTo 𝒱₀ ER (sch D) (c : Thread nD τ) none (c' := (tgt b c : Thread nD τ)) (src := sq m) (dst := sq (cS b (sl j))) (q := q)
    (sS := .dma (sndS b (sl j))) (sem := .dma (rcvS b (sl j))) (fs := f) (fd := g) (r₁ := j / 4) (r₂ := j / 4) (d₁ := 0) (d₂ := 0)
    (mem_snd b c j hj) (mem_rcv b (tgt b c) j hj) (lvM j) 0 N (amount_sq b (sl j) _) (amount_snd D _ _ _ _ _) (amount_rcv D _ _ _ _ _)
    (payL (evs.drop (n + 1)) c) (payL_cons (.msg b j) _ c) ?_ ?_) $$ [HI1 HI2 HS HD HO HT1 HT2]
  rotate_left 2
  · isplitl [HI1]; · iexact HI1
    isplitl [HI2]; · iexact HI2
    isplitl [HS]; · rw [hs]; iexact HS
    isplitl [HD]; · rw [hs']; iexact HD
    isplitl [HO]; · iexact HO
    isplitl [HT1]; · iexact HT1
    isplitr; · iexact HR1
    isplitl [HT2]; · iexact HT2
    iexact HR2
  rotate_left 1
  · rw [payload_snd, sl_num, hs]
    refine (?_ : _ ⊢ _).trans hm
    iintro H; unfold owns; iexists f; isplitr; · ipureintro; exact hf
    iexact H
  · rw [payload_rcv, sl_num, hs']
    iintro H
    unfold arr owns; iexists _; isplitr
    rotate_left
    · iexact H
    ipureintro
    unfold rcvd; rw [tgt_tgt', ← hf]
    exact sq_copy (m := m) (m' := cS b (sl j)) f g
  iintro ⟨Hcr, HO⟩
  iapply Hk
  isplitl [HT]; · iexact HT
  isplitl [HP Hcr]
  · unfold SndB; isplitl [HP] <;> iassumption
  iexists W; iexact HO

theorem sent_wait (b : Bool) (j n : ℕ) (hj : j < 12) {s : DmaSem sig} (hs : s = sndS b (sl j)) {sp sp' : Space} {sh sh' : Shape} {e e' : EltTy}
    {m₁ : Memref sig .tc sp sh e} {m₂ : Memref sig .tc sp' sh' e'} (hN : m₂.view.dmaCredit = N)
    {h1 : m₁.view.WordExact} {h2 : m₂.view.WordExact} {k : PUnit → Prog (TpuEff nD τ sig (Elt F) Λ₀ .tc) α} :
    iprop(ctx D κ ks ∗ SndB b c j ∗ owesN c n)
      ⊢ iprop((iprop(SndI b c (j + 4) ∗ srcO D b j c ∗ owesN c n) -∗ WP c (k ⟨⟩) Q)
        -∗ WP c (.op (.waitDma2 s m₁ m₂ h1 h2) k) Q) := by
  subst hs
  unfold SndB SndI owesN
  rw [sl_add, div_add]
  iintro ⟨#HC, ⟨HP, Hcr⟩, %W, HO⟩ Hk
  ihave HI := (ctx_inv D (snd_mem b (sl j) c)) $$ HC
  ihave HL := (ctx_lev D) $$ HC
  ihave HM := (may_wait (F := F) (evs.drop n) 0 (fun e _ => lev_pos e) (by decide) c (.dma (sndS b (sl j)))) $$ HL
  iapply (Rounds.wp_wait_rest_token 𝒱₀ ER (sch D) (c : Thread nD τ) none (κ := κ (sndC b (sl j) c)) (sm := .dma (sndS b (sl j))) (k' := N)
    (by intro K; rw [← hN]; exact wpE_waitDma2_eq 𝒱₀ (c : Thread nD τ) none Set.univ K) (Set.mem_univ _) 0
    (R := j / 4) (m := 0) (T := ∅) (by rw [expect_snd D b (sl j) c (j / 4) (by omega), Nat.zero_add])) $$ [HI Hcr HO HM HP]
  · isplitl [HI]; · iexact HI
    isplitl [Hcr]; · iexact Hcr
    isplitl [HO]; · iexact HO
    isplitl [HM] <;> iassumption
  rw [duties_snd, if_pos (by omega), Finset.sdiff_empty, bigSep_singleton, payload_snd, sl_num]
  iintro ⟨HO, HP, HR, HS⟩
  iapply Hk
  isplitl [HP HR]
  · isplitl [HP] <;> iassumption
  isplitl [HS]; · iexact HS
  iexists _; iexact HO

/-! ## Receiving -/

/-- The messages from number `j` on are still to be received. -/
def Recv (b : Bool) (c : Dev nD) (j : ℕ) : sProp 𝕄 :=
  iprop((bigSep (Finset.Ico j 12) fun i => cred (tallyAt (rcvC b (sl i) c) (lvM i) N))
    ∗ (bigSep (Finset.Ico j (j + 4)) fun i => atPos ER (rcvC b (sl i) c) (i / 4) ∅ 0)
    ∗ (bigSep (Finset.Ico 0 j) fun i => reached ER (rcvC b (sl i) c) (i / 4 + 1)))

theorem lvM_lt (j : ℕ) : lvM j < 21 := by unfold lvM; split <;> omega
theorem lvK_lt (j : ℕ) : lvK j < 21 := by unfold lvK; split <;> omega

theorem recv (b : Bool) (j n : ℕ) (hj : j < 12) (hlt : ∀ e ∈ evs.drop n, lvM j < e.lev) {s : DmaSem sig} (hs : s = rcvS b (sl j))
    {sp sp' : Space} {sh sh' : Shape} {e e' : EltTy} {m₁ : Memref sig .tc sp sh e} {m₂ : Memref sig .tc sp' sh' e'} (hN : m₂.view.dmaCredit = N)
    {h1 : m₁.view.WordExact} {h2 : m₂.view.WordExact} {k : PUnit → Prog (TpuEff nD τ sig (Elt F) Λ₀ .tc) α} :
    iprop(ctx D κ ks ∗ Recv b c j ∗ owesN c n)
      ⊢ iprop((iprop(Recv b c (j + 1) ∗ owns (c : Thread nD τ) (cS b (sl j)) fullShare (rcvd D b j c) ∗ owesN c n) -∗ WP c (k ⟨⟩) Q)
        -∗ WP c (.op (.waitDma2 s m₁ m₂ h1 h2) k) Q) := by
  subst hs
  unfold Recv owesN
  rw [peel hj, peel (show j < j + 4 by omega), show j + 1 + 4 = (j + 4) + 1 from rfl, addTop (a := j + 1) (show j + 1 ≤ j + 4 by omega),
    addTop (Nat.zero_le j), sl_add, div_add]
  iintro ⟨#HC, ⟨⟨Hcr, Hcrs⟩, ⟨HP, HPs⟩, HG⟩, %W, HO⟩ Hk
  ihave HI := (ctx_inv D (rcv_mem b (sl j) c)) $$ HC
  ihave HL := (ctx_lev D) $$ HC
  ihave HM := (may_wait (F := F) (evs.drop n) (lvM j) hlt (lvM_lt j) c (.dma (rcvS b (sl j)))) $$ HL
  iapply (Rounds.wp_wait_rest_token 𝒱₀ ER (sch D) (c : Thread nD τ) none (κ := κ (rcvC b (sl j) c)) (sm := .dma (rcvS b (sl j))) (k' := N)
    (by intro K; rw [← hN]; exact wpE_waitDma2_eq 𝒱₀ (c : Thread nD τ) none Set.univ K) (Set.mem_univ _) (lvM j)
    (R := j / 4) (m := 0) (T := ∅) (by rw [expect_rcv D b (sl j) c (j / 4) (by omega), Nat.zero_add])) $$ [HI Hcr HO HM HP]
  · isplitl [HI]; · iexact HI
    isplitl [Hcr]; · iexact Hcr
    isplitl [HO]; · iexact HO
    isplitl [HM] <;> iassumption
  rw [duties_rcv, if_pos (by omega), Finset.sdiff_empty, bigSep_singleton, payload_rcv, sl_num]
  iintro ⟨HO, HP, HR, HS⟩
  iapply Hk
  isplitl [Hcrs HP HPs HR HG]
  · isplitl [Hcrs]; · iexact Hcrs
    isplitl [HP HPs]
    · isplitl [HP] <;> iassumption
    isplitl [HR] <;> iassumption
  isplitl [HS]; · iexact HS
  iexists _; iexact HO

/-! ## Credits -/

/-- The credits from number `k` on are still to be given. -/
def Sig (b : Bool) (c : Dev nD) (k : ℕ) : sProp 𝕄 :=
  iprop((bigSep (Finset.Ico k 8) fun i => dutyTok ER (crdC b (tgt (!b) c)) 0 i)
    ∗ (bigSep (Finset.Ico k (k + 4)) fun i => readerAt ES (key b (sl i) c) (i / 4))
    ∗ facts b (tgt (!b) c) k ∗ reached ER (crdC b (tgt (!b) c)) 0)

theorem facts_succ (b : Bool) (d : Dev nD) (k : ℕ) : (facts b d (k + 1) : sProp 𝕄) = iprop(fact b d k ∗ facts b d k) := by
  unfold facts; rw [Finset.range_add_one, bigSep_insert Finset.notMem_range_self]; rfl

theorem mem_crd (b : Bool) (d : Dev nD) (k : ℕ) (h : k < 8) : k ∈ (sch D).duties (crdC b d) 0 := by
  rw [duties_crd]; exact Finset.mem_range.mpr h

theorem sig_give (b : Bool) (k n j : ℕ) (hk : k < 8) (hkj : k < j) (he : evs.drop n = .crd b k :: evs.drop (n + 1))
    {d : Dev nD} (hd : d = tgt (!b) c) {s : Sem sig} (hs : s = crdS b) {K : PUnit → Prog (TpuEff nD τ sig (Elt F) Λ₀ .tc) α} :
    iprop(ctx D κ ks ∗ Sig b c k ∗ slotA b (sl k) c ∗ Recv b c j ∗ owesN c n)
      ⊢ iprop((iprop(Sig b c (k + 1) ∗ Recv b c j ∗ owesN c (n + 1)) -∗ WP c (K ⟨⟩) Q)
        -∗ WP c (.op (.semSignal (Dev.tc d) s 1) K) Q) := by
  subst hd; subst hs
  have hgot : (Recv (F := F) b c j) ⊢ reached ER (rcvC b (sl k) c) (k / 4 + 1) := by
    unfold Recv; iintro ⟨-, -, H⟩
    iapply (pick (Φ := fun i => reached ER (rcvC b (sl i) c) (i / 4 + 1)) (Finset.mem_Ico.mpr ⟨Nat.zero_le k, hkj⟩)) $$ H
  iintro ⟨#HC, HS, HA, HR, HO⟩ Hk
  ihave HR := (persistent_entails_right hgot) $$ HR
  icases HR with ⟨#Hgot, HR⟩
  unfold Sig owesN
  rw [peel hk, peel (show k < k + 4 by omega), show k + 1 + 4 = (k + 4) + 1 from rfl, addTop (a := k + 1) (show k + 1 ≤ k + 4 by omega),
    sl_add, div_add, he]
  icases HS with ⟨⟨HT, HTs⟩, ⟨Hr, Hrs⟩, #Hf, #Hre⟩
  icases HO with ⟨%W, HO⟩
  ihave HI := (ctx_slot D (key b (sl k) c)) $$ HC
  imod (slot_release ES (Set.mem_univ (ks (key b (sl k) c))) (slot_one (F := F) (c := c) b (sl k)) (k / 4)) $$ [HI Hr HA] with ⟨Hr, #Hrel⟩
  · isplitl [HI]; · iexact HI
    isplitl [Hr] <;> iassumption
  ihave HI := (ctx_inv D (crd_mem b (tgt (!b) c))) $$ HC
  have hfact : iprop(released ES (key b (sl k) c) (k / 4 + 1) ∗ reached ER (rcvC b (sl k) c) (k / 4 + 1) ∗ facts b (tgt (!b) c) k)
      ⊢ (facts b (tgt (!b) c) (k + 1) : sProp 𝕄) := by
    rw [facts_succ]; unfold fact; rw [tgt_tgt b c]
    iintro ⟨H1, H2, H3⟩
    isplitl [H1 H2]
    · isplitl [H1] <;> iassumption
    iexact H3
  ihave #Hf' := hfact $$ [Hrel Hgot Hf]
  · isplitr; · iexact Hrel
    isplitr; · iexact Hgot
    iexact Hf
  iapply (Rounds.wp_signal 𝒱₀ ER (sch D) (c : Thread nD τ) none (dst := (tgt (!b) c : Thread nD τ)) (sem := crdS b) (r := 0) (d := k) (k' := 1)
    (κ := κ (crdC b (tgt (!b) c))) (mem_crd b _ k hk) (amount_crd D b _ 0 k) (lvK k)
    (payL (evs.drop (n + 1)) c) (payL_cons (.crd b k) _ c)) $$ [HI HO HT]
  · isplitl [HI]; · iexact HI
    isplitl [HO]; · iexact HO
    isplitl [HT]; · iexact HT
    isplitr
    · rw [payload_crd]; iexact Hf'
    iexact Hre
  iintro HO
  iapply Hk
  isplitl [HTs Hr Hrs]
  · isplitl [HTs]; · iexact HTs
    isplitl [Hr Hrs]
    · isplitl [Hr] <;> iassumption
    isplitr; · iexact Hf'
    iexact Hre
  isplitl [HR]; · iexact HR
  iexists W; iexact HO

/-- `k` credits have been taken. They came with the facts of some `n ≥ k` credits. -/
def taken (b : Bool) (c : Dev nD) (k : ℕ) : sProp 𝕄 :=
  iprop(∃ S : Finset ℕ, ∃ n : ℕ, ⌜S ⊆ Finset.range n ∧ S ⊆ Finset.range 8 ∧ k ≤ S.card⌝ ∗ atPos ER (crdC b c) 0 S k ∗ facts b c n)

/-- The credits from number `k` on are still to be taken. -/
def Take (b : Bool) (c : Dev nD) (k : ℕ) : sProp 𝕄 :=
  iprop(taken b c k ∗ (bigSep (Finset.Ico k 8) fun i =>
    iprop(cred (tallyAt (crdC b c) (lvK i) 1) ∗ writeTok ES (key b (sl i) (tgt b c)) (i / 4 + 1))))

theorem facts_le (b : Bool) (c : Dev nD) {k n : ℕ} (h : k < n) : facts b c n ⊢ (fact b c k : sProp 𝕄) := pick (Finset.mem_range.mpr h)

/-- The facts of all credits up to the highest taken. -/
theorem facts_grow (b : Bool) (c : Dev nD) {n : ℕ} {T S : Finset ℕ} (hT : T ⊆ Finset.range n) (hTS : T ⊆ S) :
    iprop(facts b c n ∗ bigSep (S \ T) fun d => facts b c (d + 1)) ⊢ (iprop(∃ n', ⌜S ⊆ Finset.range n'⌝ ∗ facts b c n') : sProp 𝕄) := by
  by_cases h : S ⊆ Finset.range n
  · iintro ⟨H, -⟩; iexists n; isplitr; · ipureintro; exact h
    iexact H
  · obtain ⟨x, hx, hxn⟩ := Finset.not_subset.mp h
    have hne : (S \ T).Nonempty := ⟨x, Finset.mem_sdiff.mpr ⟨hx, fun hxT => hxn (hT hxT)⟩⟩
    obtain ⟨d, hd, hmax⟩ := Finset.exists_max_image (S \ T) id hne
    have hnx : n ≤ x := by simpa using hxn
    have hxd : x ≤ d := hmax x (Finset.mem_sdiff.mpr ⟨hx, fun hxT => hxn (hT hxT)⟩)
    iintro ⟨-, H⟩
    iexists (d + 1); isplitr
    · ipureintro; intro y hy
      by_cases hyT : y ∈ T
      · have := Finset.mem_range.mp (hT hyT); exact Finset.mem_range.mpr (by omega)
      · have : y ≤ d := hmax y (Finset.mem_sdiff.mpr ⟨hy, hyT⟩); exact Finset.mem_range.mpr (by omega)
    iapply (pick (Φ := fun d => facts b c (d + 1)) hd) $$ H

theorem take_one (b : Bool) (k n : ℕ) (hk : k < 8) (hlt : ∀ e ∈ evs.drop n, lvK k < e.lev) {s : Sem sig} (hs : s = crdS b)
    {K : PUnit → Prog (TpuEff nD τ sig (Elt F) Λ₀ .tc) α} :
    iprop(ctx D κ ks ∗ Take b c k ∗ owesN c n)
      ⊢ iprop((iprop(Take b c (k + 1) ∗ ready b c (k + 4) ∗ owesN c n) -∗ WP c (K ⟨⟩) Q)
        -∗ WP c (.op (.semWait s 1) K) Q) := by
  subst hs
  unfold Take owesN
  rw [peel hk]
  iintro ⟨#HC, ⟨Ht, ⟨Hcr, Hw⟩, Hs⟩, %W, HO⟩ Hk
  unfold taken
  icases Ht with ⟨%T, %n₀, %hT, HP, #Hf⟩
  obtain ⟨hT1, hT2, hT3⟩ := hT
  ihave HI := (ctx_inv D (crd_mem b c)) $$ HC
  ihave HL := (ctx_lev D) $$ HC
  ihave HM := (may_wait (F := F) (evs.drop n) (lvK k) hlt (lvK_lt k) c (.reg (crdS b))) $$ HL
  iapply (Rounds.wp_wait 𝒱₀ ER (sch D) (c : Thread nD τ) none (κ := κ (crdC b c)) (sm := .reg (crdS b)) (k' := 1)
    (fun K => wpE_semWait_eq 𝒱₀ (c : Thread nD τ) none Set.univ K) (Set.mem_univ _) (cr := Finsupp.single (lvK k) 1)
    {(SemLoc.reg (crdS b), lvK k)} (R := 0) (m := k) (T := T) (Util.total_single _ _) (image_single_subset _ _ _)) $$ [HI Hcr HO HM HP]
  · isplitl [HI]; · iexact HI
    isplitl [Hcr]; · iexact Hcr
    isplitl [HO]; · iexact HO
    isplitl [HM] <;> iassumption
  iintro %S ⟨%hS, HO, HP, HF⟩
  obtain ⟨hS1, hS2, hS3⟩ := hS
  rw [duties_crd] at hS2 hS3
  rw [expect_crd] at hS3
  have hcard : k + 1 ≤ S.card := by
    have := Finset.card_sdiff_add_card_eq_card hS2
    rw [Finset.card_range] at this; omega
  have hpay : (bigSep (S \ T) fun d => (sch D).payload ((c : Thread nD τ), SemLoc.reg (crdS b)) 0 d) = (bigSep (S \ T) fun d => facts b c (d + 1)) :=
    bigSep_congr fun d _ => payload_crd D b c 0 d
  ihave HF := (Entails.of_eq hpay) $$ HF
  ihave H := (facts_grow (F := F) b c hT1 hS1) $$ [HF]
  · isplitr; · iexact Hf
    iexact HF
  icases H with ⟨%n', %hn', #Hf'⟩
  have hkn : k < n' := by
    have := Finset.card_le_card hn'; rw [Finset.card_range] at this; omega
  ihave #Hfa := (facts_le (F := F) b c hkn) $$ Hf'
  unfold fact
  icases Hfa with ⟨#Hrel, #Hre⟩
  ihave HI := (ctx_slot D (key b (sl k) (tgt b c))) $$ HC
  imod (slot_take ES (Set.mem_univ (ks (key b (sl k) (tgt b c)))) (k / 4 + 1)) $$ [HI Hw] with HA
  · isplitl [HI]; · iexact HI
    isplitr; · iexact Hrel
    iexact Hw
  iapply Hk
  isplitl [HP Hs]
  · isplitl [HP]
    · iexists S, n'
      isplitr; · ipureintro; exact ⟨hn', hS2, hcard⟩
      isplitl [HP]; · iexact HP
      iexact Hf'
    iexact Hs
  isplitl [HA]
  · unfold ready; rw [sl_add, div_add]
    isplitl [HA]; · iexact HA
    iexact Hre
  iexists _; iexact HO

end Cert.RingProof
-- ==== Proof.State.lean ====
/-
# 01_k — what a device holds at the cuts of its run

The run is cut where the two rings are equally far. At each cut a ring's state is one assertion over the
direction; what the rings share is listed beside them.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

/-! ## The handshake -/

/-- What a device needs to greet its neighbour in direction `b`. -/
def Greet (b : Bool) (c : Dev nD) : sProp 𝕄 :=
  iprop(dutyTok ER (barC (tgt b c)) 0 (cond b 1 0) ∗ reached ER (barC (tgt b c)) 0
    ∗ (bigSep Finset.univ fun s : Fin 4 => iprop(slotA (!b) s c ∗ reached ER (rcvC (!b) s c) 0)) ∗ reached ER (crdC b c) 0)

theorem greet (b : Bool) (n : ℕ) (he : evs.drop n = .bar b :: evs.drop (n + 1)) {d : Dev nD} (hd : d = tgt b c) {s : Sem sig} (hs : s = barS)
    {K : PUnit → Prog (TpuEff nD τ sig (Elt F) Λ₀ .tc) α} :
    iprop(ctx D κ ks ∗ Greet b c ∗ owesN c n)
      ⊢ iprop((owesN c (n + 1) -∗ WP c (K ⟨⟩) Q) -∗ WP c (.op (.semSignal (Dev.tc d) s 1) K) Q) := by
  subst hd; subst hs
  unfold Greet owesN
  rw [he]
  iintro ⟨#HC, ⟨HT, #Hre, Hs, #Hk⟩, %W, HO⟩ Hk'
  ihave HI := (ctx_inv D (bar_mem (tgt b c))) $$ HC
  have hd : cond b 1 0 ∈ (sch D).duties (barC (tgt b c)) 0 := by rw [duties_bar]; cases b <;> decide
  have hp : iprop((bigSep Finset.univ fun s : Fin 4 => iprop(slotA (!b) s c ∗ reached ER (rcvC (!b) s c) 0)) ∗ reached ER (crdC b c) 0)
      ⊢ (sch D).payload (barC (tgt b c)) 0 (cond b 1 0) := by
    rw [payload_bar]
    have h1 : decide (cond b 1 0 = 0) = !b := by cases b <;> rfl
    rw [h1]; unfold barP; rw [tgt_tgt' b c, Bool.not_not]
  iapply (Rounds.wp_signal 𝒱₀ ER (sch D) (c : Thread nD τ) none (dst := (tgt b c : Thread nD τ)) (sem := barS) (r := 0) (d := cond b 1 0) (k' := 1)
    (κ := κ (barC (tgt b c))) hd (amount_bar D _ 0 _) 1
    (payL (evs.drop (n + 1)) c) (payL_cons (.bar b) _ c)) $$ [HI HO HT Hs]
  · isplitl [HI]; · iexact HI
    isplitl [HO]; · iexact HO
    isplitl [HT]; · iexact HT
    isplitl [Hs]
    · iapply hp
      isplitl [Hs]; · iexact Hs
      iexact Hk
    iexact Hre
  iintro HO
  iapply Hk'
  iexists W; iexact HO

theorem greeted (n : ℕ) (hlt : ∀ e ∈ evs.drop n, 1 < e.lev) {s : Sem sig} (hs : s = barS)
    {K : PUnit → Prog (TpuEff nD τ sig (Elt F) Λ₀ .tc) α} :
    iprop(ctx D κ ks ∗ (cred (tallyAt (barC c) 1 2) ∗ atPos ER (barC c) 0 ∅ 0) ∗ owesN c n)
      ⊢ iprop((iprop(atPos ER (barC c) 1 ∅ 0 ∗ barP true c ∗ barP false c ∗ owesN c n) -∗ WP c (K ⟨⟩) Q)
        -∗ WP c (.op (.semWait s 2) K) Q) := by
  subst hs
  unfold owesN
  iintro ⟨#HC, ⟨Hcr, HP⟩, %W, HO⟩ Hk
  ihave HI := (ctx_inv D (bar_mem c)) $$ HC
  ihave HL := (ctx_lev D) $$ HC
  ihave HM := (may_wait (F := F) (evs.drop n) 1 hlt (by decide) c (.reg barS)) $$ HL
  iapply (Rounds.wp_wait_rest_token 𝒱₀ ER (sch D) (c : Thread nD τ) none (κ := κ (barC c)) (sm := .reg barS) (k' := 2)
    (fun K => wpE_semWait_eq 𝒱₀ (c : Thread nD τ) none Set.univ K) (Set.mem_univ _) 1
    (R := 0) (m := 0) (T := ∅) (expect_bar D c).symm) $$ [HI Hcr HO HM HP]
  · isplitl [HI]; · iexact HI
    isplitl [Hcr]; · iexact Hcr
    isplitl [HO]; · iexact HO
    isplitl [HM] <;> iassumption
  rw [duties_bar, Finset.sdiff_empty, big_insert (by decide), bigSep_singleton, payload_bar, payload_bar]
  iintro ⟨HO, HP, -, HB⟩
  icases HB with ⟨HB1, HB2⟩
  iapply Hk
  isplitl [HP]; · iexact HP
  isplitl [HB1]; · iexact HB1
  isplitl [HB2]; · iexact HB2
  iexists _; iexact HO

/-- The neighbour's greeting: its four slots, and that it takes credits. -/
theorem barP_ready (b : Bool) : barP b c ⊢ (iprop(ready b c 0 ∗ ready b c 1 ∗ ready b c 2 ∗ ready b c 3 ∗ reached ER (crdC (!b) (tgt b c)) 0) : sProp 𝕄) := by
  unfold barP ready
  have h4 : (Finset.univ : Finset (Fin 4)) = {0, 1, 2, 3} := by decide
  rw [h4, big_insert (by decide), big_insert (by decide), big_insert (by decide), bigSep_singleton]
  iintro ⟨HB, H⟩
  icases HB with ⟨H0, HB⟩
  icases HB with ⟨H1, HB⟩
  icases HB with ⟨H2, H3⟩
  isplitl [H0]; · iexact H0
  isplitl [H1]; · iexact H1
  isplitl [H2]; · iexact H2
  isplitl [H3]; · iexact H3
  iexact H

theorem facts_zero (b : Bool) (d : Dev nD) : (emp : sProp 𝕄) ⊢ facts b d 0 := by
  unfold facts; rw [Finset.range_zero, bigSep_empty]; exact Entails.rfl

/-! ## What messages are made of -/

theorem sent_acc (b : Bool) (j : ℕ) (hj : j < 4) :
    sent D b (j + 2) c = k0_pay5 (rcvd D b j c) (xV D b c (rsc b ⟨j / 2, by omega⟩) (s2 j)) := by
  match j, hj with
  | 0, _ => rfl
  | 1, _ => rfl
  | 2, _ => rfl
  | 3, _ => rfl

theorem src_cv (b : Bool) (j : ℕ) (h : j % 6 < 2) :
    (owns (c : Thread nD τ) (vS b (s2 j)) fullShare (sent D b j c) : sProp 𝕄) ⊢ srcO D b j c := by
  unfold srcO; rw [if_pos h]
theorem src_slot (b : Bool) (j : ℕ) (h : ¬ j % 6 < 2) (h8 : j < 8) :
    (owns (c : Thread nD τ) (cS b (sl (j + 2))) fullShare (sent D b j c) : sProp 𝕄) ⊢ srcO D b j c := by
  unfold srcO; rw [if_neg h, if_pos h8]
theorem src_lent (b : Bool) (j : ℕ) (h : ¬ j % 6 < 2) (h8 : ¬ j < 8) :
    (owns (c : Thread nD τ) (cS b (sl (j + 2))) fullShare.left (sent D b j c) : sProp 𝕄) ⊢ srcO D b j c := by
  unfold srcO; rw [if_neg h, if_neg h8]
theorem src_cv' (b : Bool) (j : ℕ) (h : j % 6 < 2) :
    srcO D b j c ⊢ (owns (c : Thread nD τ) (vS b (s2 j)) fullShare (sent D b j c) : sProp 𝕄) := by
  unfold srcO; rw [if_pos h]
theorem src_slot' (b : Bool) (j : ℕ) (h : ¬ j % 6 < 2) (h8 : j < 8) :
    srcO D b j c ⊢ (slotA b (sl (j + 2)) c : sProp 𝕄) := by
  unfold srcO slotA; rw [if_neg h, if_pos h8]
  iintro H; iexists _; iexact H
theorem src_lent' (b : Bool) (j : ℕ) (h : ¬ j % 6 < 2) (h8 : ¬ j < 8) :
    srcO D b j c ⊢ (owns (c : Thread nD τ) (cS b (sl (j + 2))) fullShare.left (sent D b j c) : sProp 𝕄) := by
  unfold srcO; rw [if_neg h, if_neg h8]

/-! ## A ring's state at the cuts -/

/-- A converted chunk's buffer, at any contents. -/
def vA (b : Bool) (s : Fin 2) (c : Dev nD) : sProp 𝕄 := iprop(∃ X, owns (c : Thread nD τ) (vS b s) fullShare X)
theorem src_vA (b : Bool) (j : ℕ) (t : Fin 2) (h : j % 6 < 2) (ht : s2 j = t) : srcO D b j c ⊢ (vA b t c : sProp 𝕄) := by
  subst ht; unfold vA; iintro H; iexists _; iapply (src_cv' D b j h) $$ H
/-- A piece of the result, at any contents. -/
def oA (b : Bool) (k : Fin 4) (s : Fin 2) (c : Dev nD) : sProp 𝕄 := iprop(∃ X, owns (c : Thread nD τ) (oP b c k s) fullShare X)

/-- The pieces of the result a ring writes, in order. -/
def oK (b : Bool) (t : Fin 3) : Fin 4 := match b, t with
  | true, 0 => 0 | true, 1 => 3 | true, 2 => 2
  | false, 0 => 2 | false, 1 => 3 | false, 2 => 0

/-- A fetch is under way into the ring's staging buffer. -/
abbrev fetching (b : Bool) (c : Dev nD) (k : Fin 4) (s : Fin 2) : sProp 𝕄 :=
  busy c (stgS b) (sM b).view.dmaCredit (idle D b c (xV D b c k s))

/-- At the start. -/
def Ring0 (b : Bool) (c : Dev nD) : sProp 𝕄 :=
  iprop(Start b c 0 ∗ Recv b c 0
    ∗ ((bigSep (Finset.Ico 0 8) fun i => dutyTok ER (crdC b (tgt (!b) c)) 0 i)
      ∗ (bigSep (Finset.Ico 0 4) fun i => readerAt ES (key b (sl i) c) (i / 4)))
    ∗ Take b c 0 ∗ (SndI b c 0 ∗ SndI b c 1 ∗ SndI b c 2 ∗ SndI b c 3)
    ∗ vA b 0 c ∗ vA b 1 c ∗ (∃ Y, idle D b c Y))

/-- Two messages are on their way, nothing has been received. -/
def RingA (b : Bool) (c : Dev nD) : sProp 𝕄 :=
  iprop(Start b c 2 ∗ Recv b c 0 ∗ Sig b c 0 ∗ Take b c 0 ∗ SndB b c 0 ∗ SndB b c 1 ∗ SndI b c 2 ∗ SndI b c 3
    ∗ ready b c 2 ∗ ready b c 3 ∗ fetching D b c (rsc b 0) 0)

/-- Three messages have been received, the third one's sum waits to be sent. -/
def RingB (b : Bool) (c : Dev nD) : sProp 𝕄 :=
  iprop(Start b c 4 ∗ Recv b c 3 ∗ Sig b c 1 ∗ Take b c 0 ∗ SndB b c 0 ∗ SndB b c 1 ∗ SndI b c 6 ∗ SndB b c 3
    ∗ owns (c : Thread nD τ) (cS b (sl 2)) fullShare (sent D b 4 c) ∗ fetching D b c (rsc b 1) 1)

/-- Six messages have been sent, four received. -/
def RingC (b : Bool) (c : Dev nD) : sProp 𝕄 :=
  iprop(Start b c 6 ∗ Recv b c 4 ∗ Sig b c 2 ∗ Take b c 2 ∗ SndB b c 4 ∗ SndB b c 5 ∗ SndI b c 6 ∗ SndI b c 7
    ∗ vA b 0 c ∗ vA b 1 c ∗ fetching D b c 1 0)

/-- The first finished block is on its way, and all partial sums have been received. -/
def RingD (b : Bool) (c : Dev nD) : sProp 𝕄 :=
  iprop(Start b c 7 ∗ Recv b c 6 ∗ Sig b c 3 ∗ Take b c 3 ∗ SndI b c 8 ∗ SndB b c 5 ∗ SndB b c 6 ∗ SndI b c 7
    ∗ slotA b 0 c ∗ owns (c : Thread nD τ) (cS b (sl 5)) fullShare (rcvd D b 5 c) ∗ vA b 1 c ∗ fetching D b c 1 1)

/-- Both finished blocks are on their way. -/
def RingE (b : Bool) (c : Dev nD) : sProp 𝕄 :=
  iprop(Start b c 8 ∗ Recv b c 6 ∗ Sig b c 6 ∗ Take b c 4 ∗ SndI b c 8 ∗ SndI b c 9 ∗ SndB b c 6 ∗ SndB b c 7
    ∗ (∃ Y, idle D b c Y))

/-- Two of the other devices' blocks have been received, stored and sent on. -/
def RingF (b : Bool) (c : Dev nD) : sProp 𝕄 :=
  iprop(Start b c 10 ∗ Recv b c 8 ∗ Sig b c 7 ∗ Take b c 6 ∗ SndI b c 12 ∗ SndB b c 9 ∗ SndB b c 6 ∗ SndB b c 7
    ∗ owns (c : Thread nD τ) (cS b (sl 7)) fullShare.right (rcvd D b 7 c) ∗ (∃ Y, idle D b c Y))

/-- At the end. -/
def RingZ (b : Bool) (c : Dev nD) : sProp 𝕄 :=
  iprop(Recv b c 12 ∗ Sig b c 8 ∗ Take b c 8 ∗ SndI b c 12 ∗ SndI b c 13 ∗ SndI b c 14 ∗ SndI b c 15
    ∗ slotA b 0 c ∗ slotA b 1 c ∗ slotA b 2 c ∗ slotA b 3 c ∗ vA b 0 c ∗ vA b 1 c ∗ (∃ Y, idle D b c Y))

end Cert.RingProof
-- ==== Proof.Cut.lean ====
/-
# 01_k — the body, cut

The rest of the body from each cut on, over the buffers the kernel is called with.
-/
module

public import proofs.«01_k».proof.Proof.State

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

/-- A part of the body at the kernel's buffers. -/
abbrev ap {β : Type 1} (f : ∀ (arg0 : Memref sig .tc .hbm S1x4096x4096 .f32) (harg0 : arg0.IsWhole) (arg1 : Memref sig .tc .hbm S4096x4096 .f32) (harg1 : arg1.IsWhole) (arg2 : Memref sig .tc .vmem S1x4096 .f32) (harg2 : arg2.IsWhole) (arg3 : Memref sig .tc .hbm S4096x4096 .f32) (harg3 : arg3.IsWhole) (arg4 : Memref sig .tc .hbm S4096x4096 .f32) (harg4 : arg4.IsWhole) (arg5 : Memref sig .tc .vmem S1024x4096 .f32) (harg5 : arg5.IsWhole) (arg6 : Memref sig .tc .vmem S4x512x2048 .bf16) (harg6 : arg6.IsWhole) (arg7 : Memref sig .tc .vmem S4x512x2048 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S2x512x2048 .bf16) (harg10 : arg10.IsWhole) (arg11 : Memref sig .tc .vmem S2x512x2048 .bf16) (harg11 : arg11.IsWhole) (arg12 : DmaSems sig S4) (arg13 : DmaSems sig S4) (arg14 : DmaSems sig S4) (arg15 : DmaSems sig S4) (arg16 : DmaSems sig S_) (arg17 : DmaSems sig S_) (arg18 : DmaSems sig S_) (arg19 : DmaSems sig S_) (arg20 : Sems sig S_) (arg21 : Sems sig S_), β) : β :=
  f (Memref.whole main_arg0) (Memref.isWhole_whole _) (Memref.whole main_arg1) (Memref.isWhole_whole _) (Memref.whole cc0_stg0_0) (Memref.isWhole_whole _) (Memref.whole main_v3) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16

/-- Two of the other devices' blocks have been stored. -/
def restF (d0 : Dev nD) (v4 v7 v21 v24 v33 v36 v904 : BitVec 32) : Prog (TpuEff nD τ sig (Elt F) Λ₀ .tc) PUnit := do
  let v930 : FVec F S512x2048 .f32 ← (ap (k0_part35 (F := F))) d0 v4 v904
  let ⟨v952, c0_i32_1013⟩ : Σ' (v952 : BitVec 32), BitVec 32 ← (ap (k0_part36 (F := F))) d0 v7 v21 v930
  (ap (k0_part37 (F := F))) d0 v7 v33 v952 c0_i32_1013
  (ap (k0_part38 (F := F))) d0 v4
  (ap (k0_part39 (F := F))) d0 v4 v7 v21
  (ap (k0_part40 (F := F))) d0 v7 v33
  (ap (k0_part41 (F := F))) d0 v4 v7 v24
  (ap (k0_part42 (F := F))) d0 v4 v24 v36
  (ap (k0_part43 (F := F))) d0 v7 v36
  (ap (k0_part44 (F := F))) d0
  Prog.lift (.waitDma2 (SemArray.sem cc0_scratch14) (aM.slice (Rect.unit (s := S1024x4096) ![512, 0] S512x4096.size inb_S1024x4096_S512x4096_512_0) (fun _ => rfl))
    (oM.slice (Rect.unit (s := S4096x4096) (k0_off5 d0 512#32) S512x4096.size (k0_off5_inb d0 1)) (fun _ => rfl)) (View.wordExact_bits rfl) (View.wordExact_bits rfl))
  pure ⟨⟩

/-- Both finished blocks are on their way. -/
def restE (d0 : Dev nD) (v4 v7 v18 v21 v24 v30 v33 v36 : BitVec 32) : Prog (TpuEff nD τ sig (Elt F) Λ₀ .tc) PUnit := do
  let c1_i32_834 : BitVec 32 ← (ap (k0_part30 (F := F))) d0 v4 v18
  (ap (k0_part31 (F := F))) d0 v7 v30 c1_i32_834
  (ap (k0_part32 (F := F))) d0 v4 v18
  (ap (k0_part33 (F := F))) d0 v7
  let v904 : BitVec 32 ← (ap (k0_part34 (F := F))) d0 v4 v7 v30
  restF d0 v4 v7 v21 v24 v33 v36 v904

/-- The first finished block is on its way. -/
def restD (d0 : Dev nD) (v4 v7 v18 v21 v24 v30 v33 v36 v349 : BitVec 32) : Prog (TpuEff nD τ sig (Elt F) Λ₀ .tc) PUnit := do
  let v669 : Vec F S512x2048 .f32 ← (ap (k0_part25 (F := F))) d0 v349
  let ⟨v700, v702⟩ : Σ' (v700 : Vec F S256x4096 .f32), FVec F S256 .f32 ← (ap (k0_part26 (F := F))) d0 v669
  (ap (k0_part27 (F := F))) d0 v7 v700 v702
  let v754 : FVec F S512x2048 .bf16 ← (ap (k0_part28 (F := F))) d0 v4
  (ap (k0_part29 (F := F))) d0 v4 v7 v349 v754
  restE d0 v4 v7 v18 v21 v24 v30 v33 v36

/-- The last partial sums are on their way. -/
def restC (d0 : Dev nD) (v4 v7 v18 v21 v24 v30 v33 v36 v349 : BitVec 32) : Prog (TpuEff nD τ sig (Elt F) Λ₀ .tc) PUnit := do
  (ap (k0_part19 (F := F))) d0 v4 v7 v349
  let v528 : FVec F S512x2048 .f32 ← (ap (k0_part20 (F := F))) d0 v349
  (ap (k0_part21 (F := F))) v528
  (ap (k0_part22 (F := F))) d0 v4 v7
  (ap (k0_part23 (F := F))) d0 v4 v7 v349
  (ap (k0_part24 (F := F))) d0 v4 v7 v349
  restD d0 v4 v7 v18 v21 v24 v30 v33 v36 v349

/-- Three messages have been received. -/
def restB (d0 : Dev nD) (v4 v7 v18 v21 v24 v30 v33 v36 v349 : BitVec 32) : Prog (TpuEff nD τ sig (Elt F) Λ₀ .tc) PUnit := do
  (ap (k0_part14 (F := F))) d0 v7 v349
  (ap (k0_part15 (F := F))) d0 v7
  (ap (k0_part16 (F := F))) d0 v4 v349
  let c1_i32_479 : BitVec 32 ← (ap (k0_part17 (F := F))) d0 v7
  (ap (k0_part18 (F := F))) d0 v4 v7 c1_i32_479
  restC d0 v4 v7 v18 v21 v24 v30 v33 v36 v349

/-- Two messages are on their way. -/
def restA (d0 : Dev nD) (v2 v4 v7 v18 v21 v24 v30 v33 v36 v135 : BitVec 32) : Prog (TpuEff nD τ sig (Elt F) Λ₀ .tc) PUnit := do
  let ⟨v164, c8_i32_155⟩ : Σ' (v164 : BitVec 32), BitVec 32 ← (ap (k0_part6 (F := F))) d0 v2 v4 v135
  let v190 : BitVec 32 ← (ap (k0_part7 (F := F))) d0 v7 v164 c8_i32_155
  let v219 : FVec F S512x2048 .f32 ← (ap (k0_part8 (F := F))) d0 v2 v4 v190
  (ap (k0_part9 (F := F))) d0 v2 v4 v7 v219
  let ⟨v275, c0_i32_268⟩ : Σ' (v275 : BitVec 32), BitVec 32 ← (ap (k0_part10 (F := F))) d0 v2 v7
  (ap (k0_part11 (F := F))) d0 v4 v275 c0_i32_268
  let v328 : FVec F S512x2048 .bf16 ← (ap (k0_part12 (F := F))) d0 v2 v7
  let v349 : BitVec 32 ← (ap (k0_part13 (F := F))) d0 v2 v4 v328
  restB d0 v4 v7 v18 v21 v24 v30 v33 v36 v349

/-- The whole body. -/
def rest0  : Prog (TpuEff nD τ sig (Elt F) Λ₀ .tc) PUnit := do
  let ⟨d0, v2, v4, v7, v15, v18, v21, v24, v26⟩ : Σ' (d0 : Dev nD) (v2 : BitVec 32) (v4 : BitVec 32) (v7 : BitVec 32) (v15 : BitVec 32) (v18 : BitVec 32) (v21 : BitVec 32) (v24 : BitVec 32), BitVec 32 ← (ap (k0_part1 (F := F)))
  let ⟨v27, v30, v33, v36, v52⟩ : Σ' (v27 : BitVec 32) (v30 : BitVec 32) (v33 : BitVec 32) (v36 : BitVec 32), BitVec 32 ← (ap (k0_part2 (F := F))) d0 v2 v4 v15 v26
  (ap (k0_part3 (F := F))) d0 v7 v15 v52
  (ap (k0_part4 (F := F))) d0 v2 v4 v27
  let v135 : BitVec 32 ← (ap (k0_part5 (F := F))) d0 v2 v4 v7
  restA d0 v2 v4 v7 v18 v21 v24 v30 v33 v36 v135

set_option maxRecDepth 65536 in
theorem body_eq : ap cc0_body = rest0 (F := F) := by
  rw [cc0_body_eq_skeleton]; rfl

end Cert.RingProof
-- ==== Proof.Places.lean ====
/-
# 01_k — where the copies go

The offsets and the devices the body computes, in closed form.
-/
module

public import proofs.«01_k».proof.Proof.Cut

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

/-- The words the body passes for a sub-block, -/
abbrev wS : Fin 2 → BitVec 32 := ![0#32, 512#32]
/-- and for a chunk, in the four kinds of copies. -/
abbrev w1 : Fin 4 → BitVec 32 := ![0#32, 1#32, 4294967294#32, 4294967295#32]
abbrev w2 : Fin 4 → BitVec 32 := ![4#32, 1#32, 2#32, 3#32]
abbrev w3 : Fin 4 → BitVec 32 := ![0#32, 1#32, 2#32, 4294967295#32]
abbrev w4 : Fin 4 → BitVec 32 := ![0#32, 1#32, 2#32, 3#32]

theorem off1 : ∀ (k : Fin 4) (s : Fin 2) (c : Dev nD), k0_off1 c (w1 k) (wS s) = ![0, row c k s, col true] := by decide +kernel
theorem off2 : ∀ (k : Fin 4) (s : Fin 2) (c : Dev nD), k0_off2 c (w2 k) (wS s) = ![0, row c k s, col false] := by decide +kernel
theorem off3 : ∀ (k : Fin 4) (s : Fin 2) (c : Dev nD), k0_off3 c (w3 k) (wS s) = ![row c k s, col true] := by decide +kernel
theorem off4 : ∀ (k : Fin 4) (s : Fin 2) (c : Dev nD), k0_off4 c (w4 k) (wS s) = ![row c k s, col false] := by decide +kernel
theorem off5 : ∀ (s : Fin 2) (c : Dev nD), k0_off5 c (wS s) = ![row c 1 s, 0] := by decide +kernel

/-- A device known by its number. -/
theorem to_dev (b : Bool) {n : ℕ} (h : n < nD) (hn : n = (c.val + cond b 1 3) % 4) : (⟨n, h⟩ : Dev nD) = tgt b c := Fin.ext hn

end Cert.RingProof
-- ==== Proof.Moves.lean ====
/-
# 01_k — what the body does again and again

Short runs of steps that recur: convert a staged piece, receive a message and add a staged piece to it, free
a slot, send into a freed slot, store a finished block.
-/
module

public import proofs.«01_k».proof.Proof.Places

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

/-- Wait for a staged piece and convert it. -/
theorem convert (b : Bool) (n : ℕ) (t : Fin 2) {P : Vec F S512x2048 .f32} {f : Vec F S512x2048 .f32 → Vec F S1x512x2048 .bf16}
    {w : Vec F S1x512x2048 .bf16} (hw : f P = w) {s : DmaSem sig} (hs : s = stgS b)
    {sp : Space} {sh : Shape} {e : EltTy} {m₁ : Memref sig .tc sp sh e} {h1 h2 inb hl inb' hl' inb'' hx hm} {k : PUnit → Prog (TpuEff nD τ sig (Elt F) Λ₀ .tc) α} :
    iprop(ctx D κ ks ∗ busy c (stgS b) (sM b).view.dmaCredit (idle D b c P) ∗ vA b t c ∗ owesN c n)
      ⊢ iprop((iprop(idle D b c P ∗ owns (c : Thread nD τ) (vS b t) fullShare w ∗ owesN c n) -∗ WP c (k ⟨⟩) Q)
        -∗ WP c (.op (.waitDma2 s m₁ (sM b) h1 h2) fun _ =>
            .op (.load (sM b) (Rect.unit (s := S512x2048) ![0, 0] S512x2048.size inb).toLoadRect hl) fun x =>
            .op (.load (vM b) (Rect.unit (s := S2x512x2048) ![t.val, 0, 0] S1x512x2048.size inb').toLoadRect hl') fun _ =>
            .op (.store (vM b) (Rect.unit (s := S2x512x2048) ![t.val, 0, 0] S1x512x2048.size inb'') (f x) Finset.univ hx hm) k) Q) := by
  subst hs; subst hw
  iintro ⟨#HC, HB, HV, HO⟩ Hk
  iapply (wait_here n (D := D) (κ := κ) (ks := ks) (s := stgS b) rfl) $$ [HB HO]
  · isplitl [HB]; · iexact HB
    isplitr; · iexact HC
    iexact HO
  iintro ⟨HI, HO⟩
  unfold idle vA
  icases HI with ⟨Hi, HS, Hv⟩
  icases HV with ⟨%X, HV⟩
  iapply (load_st b) $$ HS
  iintro HS
  iapply (load_own (m := vM b) (r := vR t) (hr := fun _ => rfl)) $$ HV
  iintro HV
  iapply (store_own (m := vM b) (r := vR t) (hr := fun _ => rfl) (w := f P)) $$ HV
  iintro HV
  iapply Hk
  isplitl [Hi HS Hv]
  · isplitl [Hi]; · iexact Hi
    isplitl [HS] <;> iassumption
  isplitl [HV] <;> iassumption

/-- Receive a message, wait for a staged piece, and add the piece to the message in its slot. -/
theorem gather (b : Bool) (j n : ℕ) (hj : j < 12) (hlt : ∀ e ∈ evs.drop n, lvM j < e.lev)
    {P : Vec F S512x2048 .f32} {f : Vec F S1x512x2048 .bf16 → Vec F S512x2048 .f32 → Vec F S1x512x2048 .bf16}
    {w : Vec F S1x512x2048 .bf16} (hw : f (rcvd D b j c) P = w) {s s' : DmaSem sig} (hs : s = rcvS b (sl j)) (hs' : s' = stgS b) {p : ℕ} (hp : p = (sl j).val)
    {sp sp' sp'' : Space} {sh sh' sh'' : Shape} {e e' e'' : EltTy} {m₁ : Memref sig .tc sp sh e} {m₂ : Memref sig .tc sp' sh' e'}
    {m₃ : Memref sig .tc sp'' sh'' e''} (hN : m₂.view.dmaCredit = N) {h1 h2 h3 h4 inb hl inb' hl' inb2 hl2 inb'' hx hm}
    {k : PUnit → Prog (TpuEff nD τ sig (Elt F) Λ₀ .tc) α} :
    iprop(ctx D κ ks ∗ Recv b c j ∗ busy c (stgS b) (sM b).view.dmaCredit (idle D b c P) ∗ owesN c n)
      ⊢ iprop((iprop(Recv b c (j + 1) ∗ idle D b c P ∗ owns (c : Thread nD τ) (cS b (sl j)) fullShare w ∗ owesN c n) -∗ WP c (k ⟨⟩) Q)
        -∗ WP c (.op (.waitDma2 s m₁ m₂ h1 h2) fun _ => .op (.waitDma2 s' m₃ (sM b) h3 h4) fun _ =>
            .op (.load (cM b) (Rect.unit (s := S4x512x2048) ![p, 0, 0] S1x512x2048.size inb').toLoadRect hl') fun x =>
            .op (.load (sM b) (Rect.unit (s := S512x2048) ![0, 0] S512x2048.size inb).toLoadRect hl) fun y =>
            .op (.load (cM b) (Rect.unit (s := S4x512x2048) ![p, 0, 0] S1x512x2048.size inb2).toLoadRect hl2) fun _ =>
            .op (.store (cM b) (Rect.unit (s := S4x512x2048) ![p, 0, 0] S1x512x2048.size inb'') (f x y) Finset.univ hx hm) k) Q) := by
  subst hs'; subst hp; subst hw
  iintro ⟨#HC, HR, HB, HO⟩ Hk
  iapply (recv (D := D) (κ := κ) (ks := ks) b j n hj hlt hs hN) $$ [HR HO]
  · isplitr; · iexact HC
    isplitl [HR] <;> iassumption
  iintro ⟨HR, HS, HO⟩
  iapply (wait_here n (D := D) (κ := κ) (ks := ks) (s := stgS b) rfl) $$ [HB HO]
  · isplitl [HB]; · iexact HB
    isplitr; · iexact HC
    iexact HO
  iintro ⟨HI, HO⟩
  unfold idle
  icases HI with ⟨Hi, HY, Hv⟩
  iapply (load_own (m := cM b) (r := cR (sl j)) (hr := fun _ => rfl)) $$ HS
  iintro HS
  iapply (load_st b) $$ HY
  iintro HY
  iapply (load_own (m := cM b) (r := cR (sl j)) (hr := fun _ => rfl)) $$ HS
  iintro HS
  iapply (store_own (m := cM b) (r := cR (sl j)) (hr := fun _ => rfl) (w := f (rcvd D b j c) P)) $$ HS
  iintro HS
  iapply Hk
  isplitl [HR]; · iexact HR
  isplitl [Hi HY Hv]
  · isplitl [Hi]; · iexact Hi
    isplitl [HY] <;> iassumption
  isplitl [HS] <;> iassumption

/-- Wait until a message has left its slot, and give the slot back. -/
theorem free (b : Bool) (j n r : ℕ) (hj : 2 ≤ j) (hj' : j < 6) (hr : j - 2 < r) (he : evs.drop n = .crd b (j - 2) :: evs.drop (n + 1))
    {s : DmaSem sig} (hs : s = sndS b (sl j)) {sp sp' : Space} {sh sh' : Shape} {e e' : EltTy}
    {m₁ : Memref sig .tc sp sh e} {m₂ : Memref sig .tc sp' sh' e'} (hN : m₂.view.dmaCredit = N) {h1 h2}
    {d : Dev nD} (hd : d = tgt (!b) c) {s' : Sem sig} (hs' : s' = crdS b) {k : PUnit → Prog (TpuEff nD τ sig (Elt F) Λ₀ .tc) α} :
    iprop(ctx D κ ks ∗ SndB b c j ∗ Sig b c (j - 2) ∗ Recv b c r ∗ owesN c n)
      ⊢ iprop((iprop(SndI b c (j + 4) ∗ Sig b c (j - 2 + 1) ∗ Recv b c r ∗ owesN c (n + 1)) -∗ WP c (k ⟨⟩) Q)
        -∗ WP c (.op (.waitDma2 s m₁ m₂ h1 h2) fun _ => .op (.semSignal (Dev.tc d) s' 1) k) Q) := by
  iintro ⟨#HC, HB, HG, HR, HO⟩ Hk
  iapply (sent_wait (D := D) (κ := κ) (ks := ks) b j n (by omega) hs hN) $$ [HB HO]
  · isplitr; · iexact HC
    isplitl [HB] <;> iassumption
  iintro ⟨HI, HS, HO⟩
  have e1 : sl (j + 2) = sl (j - 2) := Fin.ext (by simp only [sl]; omega)
  ihave HS := (src_slot' D (c := c) b j (by omega) (by omega)) $$ HS
  rw [e1]
  iapply (sig_give (D := D) (κ := κ) (ks := ks) b (j - 2) n r (by omega) hr he hd hs') $$ [HG HS HR HO]
  · isplitr; · iexact HC
    isplitl [HG]; · iexact HG
    isplitl [HS]; · iexact HS
    isplitl [HR] <;> iassumption
  iintro ⟨HG, HR, HO⟩
  iapply Hk
  isplitl [HI]; · iexact HI
  isplitl [HG]; · iexact HG
  isplitl [HR] <;> iassumption

/-- The same for a slot that has been copied out meanwhile. -/
theorem free' (b : Bool) (j n r : ℕ) (hj : 8 ≤ j) (hj' : j < 10) (hr : j - 2 < r) (he : evs.drop n = .crd b (j - 2) :: evs.drop (n + 1))
    {s : DmaSem sig} (hs : s = sndS b (sl j)) {sp sp' : Space} {sh sh' : Shape} {e e' : EltTy}
    {m₁ : Memref sig .tc sp sh e} {m₂ : Memref sig .tc sp' sh' e'} (hN : m₂.view.dmaCredit = N) {h1 h2} {Y : Vec F S1x512x2048 .bf16}
    {d : Dev nD} (hd : d = tgt (!b) c) {s' : Sem sig} (hs' : s' = crdS b) {k : PUnit → Prog (TpuEff nD τ sig (Elt F) Λ₀ .tc) α} :
    iprop(ctx D κ ks ∗ SndB b c j ∗ owns (c : Thread nD τ) (cS b (sl (j - 2))) fullShare.right Y ∗ Sig b c (j - 2) ∗ Recv b c r ∗ owesN c n)
      ⊢ iprop((iprop(SndI b c (j + 4) ∗ Sig b c (j - 2 + 1) ∗ Recv b c r ∗ owesN c (n + 1)) -∗ WP c (k ⟨⟩) Q)
        -∗ WP c (.op (.waitDma2 s m₁ m₂ h1 h2) fun _ => .op (.semSignal (Dev.tc d) s' 1) k) Q) := by
  iintro ⟨#HC, HB, HY, HG, HR, HO⟩ Hk
  iapply (sent_wait (D := D) (κ := κ) (ks := ks) b j n (by omega) hs hN) $$ [HB HO]
  · isplitr; · iexact HC
    isplitl [HB] <;> iassumption
  iintro ⟨HI, HS, HO⟩
  have e1 : sl (j + 2) = sl (j - 2) := Fin.ext (by simp only [sl]; omega)
  ihave HS := (src_lent' D (c := c) b j (by omega) (by omega)) $$ HS
  rw [e1]
  ihave HS := owns_join $$ [HS HY]
  · isplitl [HS] <;> iassumption
  iapply (sig_give (D := D) (κ := κ) (ks := ks) b (j - 2) n r (by omega) hr he hd hs') $$ [HG HS HR HO]
  · isplitr; · iexact HC
    isplitl [HG]; · iexact HG
    isplitl [HS]
    · unfold slotA; iexists _; iexact HS
    isplitl [HR] <;> iassumption
  iintro ⟨HG, HR, HO⟩
  iapply Hk
  isplitl [HI]; · iexact HI
  isplitl [HG]; · iexact HG
  isplitl [HR] <;> iassumption

/-- Take a credit, and send into the slot it freed. -/
theorem resend (b : Bool) (k n : ℕ) (hk : k < 8) (hlt : ∀ e ∈ evs.drop n, lvK k < e.lev) (he : evs.drop n = .msg b (k + 4) :: evs.drop (n + 1))
    {s' : Sem sig} (hs' : s' = crdS b) {m : Memref sig .tc .vmem S1x512x2048 .bf16}
    {q : PosShare TreeShare} (hm : (owns (c : Thread nD τ) m q (sent D b (k + 4) c) : sProp 𝕄) ⊢ srcO D b (k + 4) c)
    {d : Dev nD} (hd : d = tgt b c) {hsc} {h1} {h2} {h3} {K : PUnit → Prog (TpuEff nD τ sig (Elt F) Λ₀ .tc) α} :
    iprop(ctx D κ ks ∗ Take b c k ∗ Start b c (k + 4) ∗ SndI b c (k + 4) ∗ owns (c : Thread nD τ) m q (sent D b (k + 4) c) ∗ owesN c n)
      ⊢ iprop((iprop(Take b c (k + 1) ∗ Start b c (k + 4 + 1) ∗ SndB b c (k + 4) ∗ owesN c (n + 1)) -∗ WP c (K ⟨⟩) Q)
        -∗ WP c (.op (.semWait s' 1) fun _ => .op (.enqueueDma (sq m) (.remote (Dev.tc d) (sq (cS b (sl (k + 4)))) (.dma (sndS b (sl (k + 4)))) hsc)
          (.dma (rcvS b (sl (k + 4)))) h1 h2 h3) K) Q) := by
  iintro ⟨#HC, HT, HA, HI, HS, HO⟩ Hk
  iapply (take_one (D := D) (κ := κ) (ks := ks) b k n hk hlt hs') $$ [HT HO]
  · isplitr; · iexact HC
    isplitl [HT] <;> iassumption
  iintro ⟨HT, HY, HO⟩
  iapply (start (D := D) (κ := κ) (ks := ks) b (k + 4) n (by omega) he hm hd) $$ [HA HI HS HY HO]
  · isplitr; · iexact HC
    isplitl [HA]; · iexact HA
    isplitl [HI]; · iexact HI
    isplitl [HS]; · iexact HS
    isplitl [HY] <;> iassumption
  iintro ⟨HA, HB, HO⟩
  iapply Hk
  isplitl [HT]; · iexact HT
  isplitl [HA]; · iexact HA
  isplitl [HB] <;> iassumption

/-- Store a received block: through the staging buffer into the result. -/
theorem put_out (b : Bool) (n : ℕ) (t : Fin 4) (kk : Fin 4) (ss : Fin 2) {q : PosShare TreeShare} {X : Vec F S1x512x2048 .bf16}
    {f : Vec F S1x512x2048 .bf16 → Vec F S512x2048 .f32} {off : Fin 2 → ℕ} (hoff : off = ![row c kk ss, col b]) {inbo}
    {s s' : DmaSem sig} (hs : s = stgS b) (hs' : s' = stgS b)
    {sp : Space} {sh : Shape} {e : EltTy} {m₁ : Memref sig .tc sp sh e} {m₂ : Memref sig .tc .hbm S512x2048 .f32} (hN : m₂.view.dmaCredit = (oP b c kk ss).view.dmaCredit)
    {inb hl inb' hl' inb'' hx hm h1 h2 h3 h4 h5}
    {k : PUnit → Prog (TpuEff nD τ sig (Elt F) Λ₀ .tc) α} :
    iprop(ctx D κ ks ∗ owns (c : Thread nD τ) (cS b t) q X ∗ (∃ Y, idle D b c Y) ∗ oA b kk ss c ∗ owesN c n)
      ⊢ iprop((iprop(owns (c : Thread nD τ) (cS b t) q X ∗ (∃ Y, idle D b c Y) ∗ owns (c : Thread nD τ) (oP b c kk ss) fullShare (f X) ∗ owesN c n) -∗ WP c (k ⟨⟩) Q)
        -∗ WP c (.op (.load (cM b) (Rect.unit (s := S4x512x2048) ![t.val, 0, 0] S1x512x2048.size inb').toLoadRect hl') fun x =>
            .op (.load (sM b) (Rect.unit (s := S512x2048) ![0, 0] S512x2048.size inb).toLoadRect hl) fun _ =>
            .op (.store (sM b) (Rect.unit (s := S512x2048) ![0, 0] S512x2048.size inb'') (f x) Finset.univ hx hm) fun _ =>
            .op (.enqueueDma (sM b) (.here (oM.slice (Rect.unit (s := S4096x4096) off S512x2048.size inbo) (fun _ => rfl))) (.dma s) h1 h2 h3) fun _ =>
            .op (.waitDma2 s' m₁ m₂ h4 h5) k) Q) := by
  subst hoff; subst hs; subst hs'
  iintro ⟨#HC, HS, ⟨%Y, HI⟩, HP, HO⟩ Hk
  unfold idle oA
  icases HI with ⟨Hi, HY, Hv⟩
  icases HP with ⟨%Z, HP⟩
  iapply (load_own (m := cM b) (r := cR t) (hr := fun _ => rfl)) $$ HS
  iintro HS
  iapply (load_st b) $$ HY
  iintro HY
  iapply (store_st b) $$ HY
  iintro HY
  iapply (copy_here (m₁ := sM b) (m₂ := oP b c kk ss) (s := stgS b) (by decide)) $$ [HY HP Hv]
  · isplitl [HY]; · iexact HY
    isplitl [HP] <;> iassumption
  iintro HB
  iapply (wait_here n (D := D) (κ := κ) (ks := ks) (s := stgS b) hN) $$ [HB HO]
  · isplitl [HB]; · iexact HB
    isplitr; · iexact HC
    iexact HO
  iintro ⟨⟨HY, HP, Hv⟩, HO⟩
  iapply Hk
  isplitl [HS]; · iexact HS
  isplitl [Hi HY Hv]
  · iexists _
    isplitl [Hi]; · iexact Hi
    isplitl [HY] <;> iassumption
  isplitl [HP] <;> iassumption

end Cert.RingProof
-- ==== Proof.Seg0.lean ====
/-
# 01_k — the body up to the second message
-/
module

public import proofs.«01_k».proof.Proof.Moves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem seg0 {Q : PUnit → sProp 𝕄} :
    iprop(ctx D κ ks ∗ Greet true c ∗ Greet false c ∗ (cred (tallyAt (barC c) 1 2) ∗ atPos ER (barC c) 0 ∅ 0)
        ∗ Ring0 D true c ∗ Ring0 D false c ∗ owesN c 0)
      ⊢ iprop((∀ v2, ∀ v4, ∀ v7, ∀ v18, ∀ v21, ∀ v24, ∀ v30, ∀ v33, ∀ v36, ∀ v135,
          iprop(atPos ER (barC c) 1 ∅ 0 ∗ RingA D true c ∗ RingA D false c ∗ owesN c 6)
            -∗ WP c (restA c v2 v4 v7 v18 v21 v24 v30 v33 v36 v135) Q) -∗ WP c rest0 Q) := by
  iintro ⟨#HC, HGt, HGf, HB, HR, HL, HO⟩ Hk
  unfold rest0 ap
  simp only [k0_part1_eq_skeleton]; unfold k0_part1_skel
  simp only [semSignalWord, semWaitWord, Prog.lift, Prog.bind_op, Prog.bind_ret, Prog.pure_eq_ret, Prog.bind_assoc, wp_deviceId]
  iapply (greet D (κ := κ) (ks := ks) false 0 rfl (to_dev false _ (k0_dev1_eq c)) rfl) $$ [HGf HO]
  · iframe; iexact HC
  iintro HO
  iapply (greet D (κ := κ) (ks := ks) true 1 rfl (to_dev true _ (k0_dev2_eq c)) rfl) $$ [HGt HO]
  · iframe; iexact HC
  iintro HO
  iapply (greeted D (κ := κ) (ks := ks) 2 (by decide) rfl) $$ [HB HO]
  · iframe; iexact HC
  iintro ⟨HB, HBR, HBL, HO⟩
  ihave HBR := (barP_ready (F := F) true) $$ HBR
  ihave HBL := (barP_ready (F := F) false) $$ HBL
  icases HBR with ⟨HR0, HR1, HR2, HR3, HcR⟩
  icases HBL with ⟨HL0, HL1, HL2, HL3, HcL⟩
  unfold Ring0
  icases HR with ⟨RA, RR, RG, RT, ⟨RI0, RI1, RI2, RI3⟩, RV0, RV1, %Y, RS⟩
  icases HL with ⟨LA, LR, LG, LT, ⟨LI0, LI1, LI2, LI3⟩, LV0, LV1, %Z, LS⟩
  simp only [k0_part2_eq_skeleton]; unfold k0_part2_skel
  simp only [Prog.lift, Prog.bind_op, Prog.bind_ret, Prog.pure_eq_ret, Prog.bind_assoc]
  iapply (fetch_x D true 0 0 (off1 0 0 c)) $$ RS
  iintro RS
  iapply (fetch_x D false 2 0 (off2 2 0 c)) $$ LS
  iintro LS
  iapply (convert D (κ := κ) (ks := ks) true 2 0 (P := xV D true c 0 0) (f := k0_pay1) (w := sent D true 0 c) rfl rfl) $$ [RS RV0 HO]
  · iframe; iexact HC
  iintro ⟨RS, RV0, HO⟩
  simp only [k0_part3_eq_skeleton]; unfold k0_part3_skel
  simp only [Prog.lift, Prog.bind_op, Prog.bind_ret, Prog.pure_eq_ret, Prog.bind_assoc]
  iapply (start (D := D) (κ := κ) (ks := ks) true 0 2 (by decide) rfl (m := vS true 0) (src_cv D true 0 (by decide)) (to_dev true _ (k0_dev3_eq c))) $$ [RA RI0 RV0 HR0 HO]
  · iframe; iexact HC
  iintro ⟨RA, RB0, HO⟩
  iapply (fetch_x D true 0 1 (off1 0 1 c)) $$ RS
  iintro RS
  iapply (convert D (κ := κ) (ks := ks) false 3 0 (P := xV D false c 2 0) (f := k0_pay2) (w := sent D false 0 c) rfl rfl) $$ [LS LV0 HO]
  · iframe; iexact HC
  iintro ⟨LS, LV0, HO⟩
  simp only [k0_part4_eq_skeleton]; unfold k0_part4_skel
  simp only [Prog.lift, Prog.bind_op, Prog.bind_ret, Prog.pure_eq_ret, Prog.bind_assoc]
  iapply (start (D := D) (κ := κ) (ks := ks) false 0 3 (by decide) rfl (m := vS false 0) (src_cv D false 0 (by decide)) (to_dev false _ (k0_dev4_eq c))) $$ [LA LI0 LV0 HL0 HO]
  · iframe; iexact HC
  iintro ⟨LA, LB0, HO⟩
  iapply (fetch_x D false 2 1 (off2 2 1 c)) $$ LS
  iintro LS
  iapply (convert D (κ := κ) (ks := ks) true 4 1 (P := xV D true c 0 1) (f := k0_pay3) (w := sent D true 1 c) rfl rfl) $$ [RS RV1 HO]
  · iframe; iexact HC
  iintro ⟨RS, RV1, HO⟩
  iapply (start (D := D) (κ := κ) (ks := ks) true 1 4 (by decide) rfl (m := vS true 1) (src_cv D true 1 (by decide)) (to_dev true _ (k0_dev5_eq c))) $$ [RA RI1 RV1 HR1 HO]
  · iframe; iexact HC
  iintro ⟨RA, RB1, HO⟩
  simp only [k0_part5_eq_skeleton]; unfold k0_part5_skel
  simp only [Prog.lift, Prog.bind_op, Prog.bind_ret, Prog.pure_eq_ret, Prog.bind_assoc]
  iapply (fetch_x D true 3 0 (off1 3 0 c)) $$ RS
  iintro RS
  iapply (convert D (κ := κ) (ks := ks) false 5 1 (P := xV D false c 2 1) (f := k0_pay4) (w := sent D false 1 c) rfl rfl) $$ [LS LV1 HO]
  · iframe; iexact HC
  iintro ⟨LS, LV1, HO⟩
  iapply (start (D := D) (κ := κ) (ks := ks) false 1 5 (by decide) rfl (m := vS false 1) (src_cv D false 1 (by decide)) (to_dev false _ (k0_dev6_eq c))) $$ [LA LI1 LV1 HL1 HO]
  · iframe; iexact HC
  iintro ⟨LA, LB1, HO⟩
  iapply (fetch_x D false 3 0 (off2 3 0 c)) $$ LS
  iintro LS
  iapply Hk
  isplitl [HB]; · iexact HB
  icases RG with ⟨RG1, RG2⟩
  icases LG with ⟨LG1, LG2⟩
  unfold RingA Sig
  iframe
  isplitl [RS HcL]
  · isplitr [RS]
    · isplitr
      · iapply (facts_zero (F := F)); iempintro
      iexact HcL
    iexact RS
  isplitr [LS]
  · isplitr
    · iapply (facts_zero (F := F)); iempintro
    iexact HcR
  iexact LS

end Cert.RingProof
-- ==== Proof.SegA.lean ====
/-
# 01_k — the body up to the third received message
-/
module

public import proofs.«01_k».proof.Proof.Moves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segA {Q : PUnit → sProp 𝕄} (v2 v4 v7 v18 v21 v24 v30 v33 v36 v135 : BitVec 32) :
    iprop(ctx D κ ks ∗ RingA D true c ∗ RingA D false c ∗ owesN c 6)
      ⊢ iprop((∀ v349, iprop(RingB D true c ∗ RingB D false c ∗ owesN c 12)
            -∗ WP c (restB c v4 v7 v18 v21 v24 v30 v33 v36 v349) Q) -∗ WP c (restA c v2 v4 v7 v18 v21 v24 v30 v33 v36 v135) Q) := by
  unfold RingA
  iintro ⟨#HC, ⟨RA, RR, RG, RT, RB0, RB1, RI2, RI3, HR2, HR3, RS⟩, ⟨LA, LR, LG, LT, LB0, LB1, LI2, LI3, HL2, HL3, LS⟩, HO⟩ Hk
  unfold restA ap
  ihave RS := (Entails.of_eq (show fetching D true c (rsc true 0) 0 = fetching D true c 3 0 from rfl)) $$ RS
  ihave LS := (Entails.of_eq (show fetching D false c (rsc false 0) 0 = fetching D false c 3 0 from rfl)) $$ LS
  simp only [k0_part6_eq_skeleton]; unfold k0_part6_skel
  simp only [Prog.lift, Prog.bind_op, Prog.bind_ret, Prog.pure_eq_ret, Prog.bind_assoc]
  iapply (gather D (κ := κ) (ks := ks) true 0 6 (by decide) (by decide) (P := xV D true c 3 0) (f := k0_pay5) (w := sent D true 2 c) rfl rfl rfl rfl (credit_any _)) $$ [RR RS HO]
  · iframe; iexact HC
  iintro ⟨RR, RS, RC, HO⟩
  iapply (start (D := D) (κ := κ) (ks := ks) true 2 6 (by decide) rfl (m := cS true (sl 0)) (src_slot D true 2 (by decide) (by decide)) (to_dev true _ (k0_dev7_eq c))) $$ [RA RI2 RC HR2 HO]
  · iframe; iexact HC
  iintro ⟨RA, RB2, HO⟩
  simp only [k0_part7_eq_skeleton]; unfold k0_part7_skel
  simp only [Prog.lift, Prog.bind_op, Prog.bind_ret, Prog.pure_eq_ret, Prog.bind_assoc]
  iapply (fetch_x D true 3 1 (off1 3 1 c)) $$ RS
  iintro RS
  iapply (gather D (κ := κ) (ks := ks) false 0 7 (by decide) (by decide) (P := xV D false c 3 0) (f := k0_pay6) (w := sent D false 2 c) rfl rfl rfl rfl (credit_any _)) $$ [LR LS HO]
  · iframe; iexact HC
  iintro ⟨LR, LS, LC, HO⟩
  simp only [k0_part8_eq_skeleton, k0_part9_eq_skeleton]; unfold k0_part8_skel k0_part9_skel
  simp only [Prog.lift, Prog.bind_op, Prog.bind_ret, Prog.pure_eq_ret, Prog.bind_assoc]
  iapply (start (D := D) (κ := κ) (ks := ks) false 2 7 (by decide) rfl (m := cS false (sl 0)) (src_slot D false 2 (by decide) (by decide)) (to_dev false _ (k0_dev8_eq c))) $$ [LA LI2 LC HL2 HO]
  · iframe; iexact HC
  iintro ⟨LA, LB2, HO⟩
  iapply (fetch_x D false 3 1 (off2 3 1 c)) $$ LS
  iintro LS
  iapply (gather D (κ := κ) (ks := ks) true 1 8 (by decide) (by decide) (P := xV D true c 3 1) (f := fun x y => k0_pay8 (k0_pay7 x) y) (w := sent D true 3 c) rfl rfl rfl rfl (credit_any _)) $$ [RR RS HO]
  · iframe; iexact HC
  iintro ⟨RR, RS, RC, HO⟩
  iapply (start (D := D) (κ := κ) (ks := ks) true 3 8 (by decide) rfl (m := cS true (sl 1)) (src_slot D true 3 (by decide) (by decide)) (to_dev true _ (k0_dev9_eq c))) $$ [RA RI3 RC HR3 HO]
  · iframe; iexact HC
  iintro ⟨RA, RB3, HO⟩
  iapply (fetch_x D true 2 0 (off1 2 0 c)) $$ RS
  iintro RS
  simp only [k0_part10_eq_skeleton]; unfold k0_part10_skel
  simp only [Prog.lift, Prog.bind_op, Prog.bind_ret, Prog.pure_eq_ret, Prog.bind_assoc]
  iapply (gather D (κ := κ) (ks := ks) false 1 9 (by decide) (by decide) (P := xV D false c 3 1) (f := k0_pay9) (w := sent D false 3 c) rfl rfl rfl rfl (credit_any _)) $$ [LR LS HO]
  · iframe; iexact HC
  iintro ⟨LR, LS, LC, HO⟩
  iapply (start (D := D) (κ := κ) (ks := ks) false 3 9 (by decide) rfl (m := cS false (sl 1)) (src_slot D false 3 (by decide) (by decide)) (to_dev false _ (k0_dev10_eq c))) $$ [LA LI3 LC HL3 HO]
  · iframe; iexact HC
  iintro ⟨LA, LB3, HO⟩
  simp only [k0_part11_eq_skeleton]; unfold k0_part11_skel
  simp only [Prog.lift, Prog.bind_op, Prog.bind_ret, Prog.pure_eq_ret, Prog.bind_assoc]
  iapply (fetch_x D false 0 0 (off2 0 0 c)) $$ LS
  iintro LS
  iapply (gather D (κ := κ) (ks := ks) true 2 10 (by decide) (by decide) (P := xV D true c 2 0) (f := k0_pay10) (w := sent D true 4 c) rfl rfl rfl rfl (credit_any _)) $$ [RR RS HO]
  · iframe; iexact HC
  iintro ⟨RR, RS, RC, HO⟩
  simp only [k0_part12_eq_skeleton, k0_part13_eq_skeleton]; unfold k0_part12_skel k0_part13_skel
  simp only [semSignalWord, semWaitWord, Prog.lift, Prog.bind_op, Prog.bind_ret, Prog.pure_eq_ret, Prog.bind_assoc]
  iapply (free D (κ := κ) (ks := ks) true 2 10 3 (by decide) (by decide) (by decide) rfl rfl (credit_any _) (to_dev false _ (k0_dev11_eq c)) rfl) $$ [RB2 RG RR HO]
  · iframe; iexact HC
  iintro ⟨RI6, RG, RR, HO⟩
  iapply (fetch_x D true 2 1 (off1 2 1 c)) $$ RS
  iintro RS
  iapply (gather D (κ := κ) (ks := ks) false 2 11 (by decide) (by decide) (P := xV D false c 0 0) (f := fun x y => k0_pay12 (k0_pay11 x y)) (w := sent D false 4 c) rfl rfl rfl rfl (credit_any _)) $$ [LR LS HO]
  · iframe; iexact HC
  iintro ⟨LR, LS, LC, HO⟩
  iapply (free D (κ := κ) (ks := ks) false 2 11 3 (by decide) (by decide) (by decide) rfl rfl (credit_any _) (to_dev true _ (k0_dev12_eq c)) rfl) $$ [LB2 LG LR HO]
  · iframe; iexact HC
  iintro ⟨LI6, LG, LR, HO⟩
  iapply (fetch_x D false 0 1 (off2 0 1 c)) $$ LS
  iintro LS
  ihave RS := (Entails.of_eq (show fetching D true c 2 1 = fetching D true c (rsc true 1) 1 from rfl)) $$ RS
  ihave LS := (Entails.of_eq (show fetching D false c 0 1 = fetching D false c (rsc false 1) 1 from rfl)) $$ LS
  iapply Hk
  unfold RingB
  iframe

end Cert.RingProof
-- ==== Proof.SegB.lean ====
/-
# 01_k — the body up to the sixth message
-/
module

public import proofs.«01_k».proof.Proof.Moves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segB {Q : PUnit → sProp 𝕄} (v4 v7 v18 v21 v24 v30 v33 v36 v349 : BitVec 32) :
    iprop(ctx D κ ks ∗ RingB D true c ∗ RingB D false c ∗ owesN c 12)
      ⊢ iprop((iprop(RingC D true c ∗ RingC D false c ∗ owesN c 18)
            -∗ WP c (restC c v4 v7 v18 v21 v24 v30 v33 v36 v349) Q) -∗ WP c (restB c v4 v7 v18 v21 v24 v30 v33 v36 v349) Q) := by
  unfold RingB
  iintro ⟨#HC, ⟨RA, RR, RG, RT, RB0, RB1, RI6, RB3, RC, RS⟩, ⟨LA, LR, LG, LT, LB0, LB1, LI6, LB3, LC, LS⟩, HO⟩ Hk
  unfold restB ap
  ihave RS := (Entails.of_eq (show fetching D true c (rsc true 1) 1 = fetching D true c 2 1 from rfl)) $$ RS
  ihave LS := (Entails.of_eq (show fetching D false c (rsc false 1) 1 = fetching D false c 0 1 from rfl)) $$ LS
  simp only [k0_part14_eq_skeleton]; unfold k0_part14_skel
  simp only [semSignalWord, semWaitWord, Prog.lift, Prog.bind_op, Prog.bind_ret, Prog.pure_eq_ret, Prog.bind_assoc]
  iapply (gather D (κ := κ) (ks := ks) true 3 12 (by decide) (by decide) (P := xV D true c 2 1) (f := k0_pay13) (w := sent D true 5 c) rfl rfl rfl rfl (credit_any _)) $$ [RR RS HO]
  · iframe; iexact HC
  iintro ⟨RR, RS, RD, HO⟩
  iapply (free D (κ := κ) (ks := ks) true 3 12 4 (by decide) (by decide) (by decide) rfl rfl (credit_any _) (to_dev false _ (k0_dev13_eq c)) rfl) $$ [RB3 RG RR HO]
  · iframe; iexact HC
  iintro ⟨RI7, RG, RR, HO⟩
  simp only [k0_part15_eq_skeleton]; unfold k0_part15_skel
  simp only [Prog.lift, Prog.bind_op, Prog.bind_ret, Prog.pure_eq_ret, Prog.bind_assoc]
  iapply (fetch_x D true 1 0 (off1 1 0 c)) $$ RS
  iintro RS
  iapply (gather D (κ := κ) (ks := ks) false 3 13 (by decide) (by decide) (P := xV D false c 0 1) (f := k0_pay14) (w := sent D false 5 c) rfl rfl rfl rfl (credit_any _)) $$ [LR LS HO]
  · iframe; iexact HC
  iintro ⟨LR, LS, LD, HO⟩
  simp only [k0_part16_eq_skeleton]; unfold k0_part16_skel
  simp only [semSignalWord, semWaitWord, Prog.lift, Prog.bind_op, Prog.bind_ret, Prog.pure_eq_ret, Prog.bind_assoc]
  iapply (free D (κ := κ) (ks := ks) false 3 13 4 (by decide) (by decide) (by decide) rfl rfl (credit_any _) (to_dev true _ (k0_dev14_eq c)) rfl) $$ [LB3 LG LR HO]
  · iframe; iexact HC
  iintro ⟨LI7, LG, LR, HO⟩
  iapply (fetch_x D false 1 0 (off2 1 0 c)) $$ LS
  iintro LS
  iapply (sent_wait (D := D) (κ := κ) (ks := ks) true 0 14 (by decide) rfl (credit_any _)) $$ [RB0 HO]
  · iframe; iexact HC
  iintro ⟨RI4, RV0, HO⟩
  ihave RV0 := (src_vA D true 0 0 (by decide) rfl) $$ RV0
  iapply (resend D (κ := κ) (ks := ks) true 0 14 (by decide) (by decide) rfl rfl (m := cS true (sl 2)) (src_slot D true 4 (by decide) (by decide)) (to_dev true _ (k0_dev15_eq c))) $$ [RT RA RI4 RC HO]
  · iframe; iexact HC
  iintro ⟨RT, RA, RB4, HO⟩
  simp only [k0_part17_eq_skeleton, k0_part18_eq_skeleton]; unfold k0_part17_skel k0_part18_skel
  simp only [semSignalWord, semWaitWord, Prog.lift, Prog.bind_op, Prog.bind_ret, Prog.pure_eq_ret, Prog.bind_assoc]
  iapply (sent_wait (D := D) (κ := κ) (ks := ks) false 0 15 (by decide) rfl (credit_any _)) $$ [LB0 HO]
  · iframe; iexact HC
  iintro ⟨LI4, LV0, HO⟩
  ihave LV0 := (src_vA D false 0 0 (by decide) rfl) $$ LV0
  iapply (resend D (κ := κ) (ks := ks) false 0 15 (by decide) (by decide) rfl rfl (m := cS false (sl 2)) (src_slot D false 4 (by decide) (by decide)) (to_dev false _ (k0_dev16_eq c))) $$ [LT LA LI4 LC HO]
  · iframe; iexact HC
  iintro ⟨LT, LA, LB4, HO⟩
  iapply (sent_wait (D := D) (κ := κ) (ks := ks) true 1 16 (by decide) rfl (credit_any _)) $$ [RB1 HO]
  · iframe; iexact HC
  iintro ⟨RI5, RV1, HO⟩
  ihave RV1 := (src_vA D true 1 1 (by decide) rfl) $$ RV1
  iapply (resend D (κ := κ) (ks := ks) true 1 16 (by decide) (by decide) rfl rfl (m := cS true (sl 3)) (src_slot D true 5 (by decide) (by decide)) (to_dev true _ (k0_dev17_eq c))) $$ [RT RA RI5 RD HO]
  · iframe; iexact HC
  iintro ⟨RT, RA, RB5, HO⟩
  iapply (sent_wait (D := D) (κ := κ) (ks := ks) false 1 17 (by decide) rfl (credit_any _)) $$ [LB1 HO]
  · iframe; iexact HC
  iintro ⟨LI5, LV1, HO⟩
  ihave LV1 := (src_vA D false 1 1 (by decide) rfl) $$ LV1
  iapply (resend D (κ := κ) (ks := ks) false 1 17 (by decide) (by decide) rfl rfl (m := cS false (sl 3)) (src_slot D false 5 (by decide) (by decide)) (to_dev false _ (k0_dev18_eq c))) $$ [LT LA LI5 LD HO]
  · iframe; iexact HC
  iintro ⟨LT, LA, LB5, HO⟩
  iapply Hk
  unfold RingC
  iframe

end Cert.RingProof
-- ==== Proof.Epilogue.lean ====
/-
# 01_k — a device's own block

The accumulator holds two halves of 512 rows. Each half is filled by columns, completed with the residual,
normalised 256 rows at a time, and then sent and copied out.
-/
module

public import proofs.«01_k».proof.Proof.Moves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

/-! ## Parts of a block -/

section Parts

variable {n k n' k' : ℕ} {r₀ c₀ r₁ c₁ : ℕ} (hr : r₀ + n ≤ 512) (hc : c₀ + k ≤ 4096)

theorem part_same (A : Vec F S512x4096 .f32) (Z : Vec F ⟨2, ![n, k]⟩ .f32) : part r₀ c₀ hr hc (putPart r₀ c₀ A Z) = Z := by
  funext j
  have h0 : (j 0).val < n := (j 0).isLt
  have h1 : (j 1).val < k := (j 1).isLt
  unfold part putPart
  rw [dif_pos ⟨⟨show r₀ ≤ r₀ + (j 0).val by omega, show r₀ + (j 0).val - r₀ < n by omega⟩,
    ⟨show c₀ ≤ c₀ + (j 1).val by omega, show c₀ + (j 1).val - c₀ < k by omega⟩⟩]
  congr 1
  funext a; revert a
  refine Fin.forall_fin_two.mpr ⟨Fin.ext ?_, Fin.ext ?_⟩
  · show r₀ + (j 0).val - r₀ = _; omega
  · show c₀ + (j 1).val - c₀ = _; omega

theorem part_other (A : Vec F S512x4096 .f32) (Z : Vec F ⟨2, ![n', k']⟩ .f32)
    (h : (r₀ + n ≤ r₁ ∨ r₁ + n' ≤ r₀) ∨ (c₀ + k ≤ c₁ ∨ c₁ + k' ≤ c₀)) :
    part r₀ c₀ hr hc (putPart r₁ c₁ A Z) = part r₀ c₀ hr hc A := by
  funext j
  have h0 : (j 0).val < n := (j 0).isLt
  have h1 : (j 1).val < k := (j 1).isLt
  unfold part putPart
  rw [dif_neg]
  rintro ⟨⟨h2, h3⟩, h4, h5⟩
  have h2 : r₁ ≤ r₀ + (j 0).val := h2
  have h3 : r₀ + (j 0).val - r₁ < n' := h3
  have h4 : c₁ ≤ c₀ + (j 1).val := h4
  have h5 : c₀ + (j 1).val - c₁ < k' := h5
  omega

end Parts

variable (D : Data F)

theorem hrH : 0 + 512 ≤ 512 := le_rfl
theorem hcH (b : Bool) : col b + 2048 ≤ 4096 := by cases b <;> decide
theorem hrT (t : Fin 2) : 256 * t.val + 256 ≤ 512 := by omega
theorem hcT : 0 + 4096 ≤ 4096 := le_rfl

/-- One ring's half of the columns. -/
abbrev colP (b : Bool) (A : Vec F S512x4096 .f32) : Vec F S512x2048 .f32 := part (n := 512) (k := 2048) 0 (col b) hrH (hcH b) A
/-- 256 rows. -/
abbrev rowP (t : Fin 2) (A : Vec F S512x4096 .f32) : Vec F S256x4096 .f32 := part (n := 256) (k := 4096) (256 * t.val) 0 (hrT t) hcT A

def acc1 (b : Bool) (s : Fin 2) (c : Dev nD) (A : Vec F S512x4096 .f32) : Vec F S512x4096 .f32 :=
  putPart (n := 512) (k := 2048) 0 (col b) A (sumP D b s c)
def acc2 (b : Bool) (s : Fin 2) (c : Dev nD) (A : Vec F S512x4096 .f32) : Vec F S512x4096 .f32 :=
  putPart (n := 512) (k := 2048) 0 (col b) A (k0_pay17 (colP b A) (gV D b c 1 s))
def acc3 (t : Fin 2) (c : Dev nD) (A : Vec F S512x4096 .f32) : Vec F S512x4096 .f32 :=
  putPart (n := 256) (k := 4096) (256 * t.val) 0 A (k0_pay20 (rowP t A) (D.w c))

theorem acc_sum (s : Fin 2) (c : Dev nD) (A : Vec F S512x4096 .f32) :
    acc2 D false s c (acc2 D true s c (acc1 D false s c (acc1 D true s c A))) = sumV D s c := by
  have h1 : colP true (acc1 D false s c (acc1 D true s c A)) = sumP D true s c :=
    (part_other _ _ _ _ (Or.inr (Or.inl (by decide)))).trans (part_same _ _ _ _)
  have h2 : colP false (acc2 D true s c (acc1 D false s c (acc1 D true s c A))) = sumP D false s c :=
    (part_other _ _ _ _ (Or.inr (Or.inr (by decide)))).trans (part_same _ _ _ _)
  unfold acc2 at h2 ⊢
  rw [h2, h1]
  funext i
  have hi0 : (i 0).val < 512 := (i 0).isLt
  have hi1 : (i 1).val < 4096 := (i 1).isLt
  unfold sumV
  by_cases h : (i 1).val < 2048
  · rw [dif_pos h]
    conv_lhs => unfold putPart
    rw [dif_neg (by rintro ⟨-, h2, -⟩; simp only [col, cond] at h2; omega)]
    rw [dif_pos ⟨⟨Nat.zero_le _, hi0⟩, Nat.zero_le _, h⟩]; rfl
  · rw [dif_neg h]
    conv_lhs => unfold putPart
    rw [dif_pos ⟨⟨Nat.zero_le _, hi0⟩, show 2048 ≤ (i 1).val by omega, show (i 1).val - 2048 < 2048 by omega⟩]; rfl

theorem acc_own (s : Fin 2) (c : Dev nD) : acc3 D 1 c (acc3 D 0 c (sumV D s c)) = ownV D s c := by
  have h1 : rowP 1 (acc3 D 0 c (sumV D s c)) = tileV D s c 1 := (part_other _ _ _ _ (Or.inl (Or.inr (by decide)))).trans (by
    funext j; unfold part tileV; congr 1
    funext a; revert a
    refine Fin.forall_fin_two.mpr ⟨rfl, Fin.ext ?_⟩
    show 0 + (j 1).val = (j 1).val; omega)
  have h0 : rowP 0 (sumV D s c) = tileV D s c 0 := by
    funext j; unfold rowP part tileV; congr 1
    funext a; revert a
    refine Fin.forall_fin_two.mpr ⟨rfl, Fin.ext ?_⟩
    show 0 + (j 1).val = (j 1).val; omega
  conv_lhs => unfold acc3
  unfold acc3 at h1; rw [h1, h0]
  funext i
  have hi0 : (i 0).val < 512 := (i 0).isLt
  have hi1 : (i 1).val < 4096 := (i 1).isLt
  unfold ownV
  have hz : ∀ (x y : ℕ) (hx : x < 256) (hy : y < 4096), x = (i 0).val % 256 → y = (i 1).val →
      at2 (n := 256) (k := 4096) x y hx hy = at2 ((i 0).val % 256) (i 1).val (Nat.mod_lt _ (by decide)) (i 1).isLt := by
    intro x y hx hy e1 e2; subst e1; subst e2; rfl
  by_cases h : (i 0).val < 256
  · have e : (⟨(i 0).val / 256, by omega⟩ : Fin 2) = 0 := Fin.ext (show (i 0).val / 256 = 0 by omega)
    conv_lhs => unfold putPart
    rw [dif_neg (by rintro ⟨⟨h2, -⟩, -⟩; have h2 : 256 * 1 ≤ (i 0).val := h2; omega)]
    rw [dif_pos ⟨⟨Nat.zero_le _, show (i 0).val - 0 < 256 by omega⟩, Nat.zero_le _, hi1⟩, e]
    congr 1
    exact hz _ _ _ _ (show (i 0).val - 256 * 0 = _ by omega) rfl
  · have e : (⟨(i 0).val / 256, by omega⟩ : Fin 2) = 1 := Fin.ext (show (i 0).val / 256 = 1 by omega)
    conv_lhs => unfold putPart
    rw [dif_pos ⟨⟨show 256 * 1 ≤ (i 0).val by omega, show (i 0).val - 256 * 1 < 256 by omega⟩, Nat.zero_le _, hi1⟩, e]
    congr 1
    exact hz _ _ _ _ (show (i 0).val - 256 * 1 = _ by omega) rfl

theorem half_own (b : Bool) (s : Fin 2) (c : Dev nD) : colP b (ownV D s c) = halfV D b s c := by
  funext j; unfold colP part halfV; congr 1
  funext a; revert a
  refine Fin.forall_fin_two.mpr ⟨Fin.ext ?_, rfl⟩
  show 0 + (j 0).val = (j 0).val; omega

theorem sum_eq (b : Bool) (s : Fin 2) (c : Dev nD) : k0_pay15 (rcvd D b (4 + s.val) c) (xV D b c 1 s) = sumP D b s c := by
  match s with
  | 0 => rfl
  | 1 => rfl

/-! ## The steps of the epilogue -/

variable {κ : GSem nD τ sig → ℕ} {ks : Key → ℕ}

/-- Wait for the device's own partial sums and put them, with what was received, into the accumulator. -/
theorem put_sum (b : Bool) (n : ℕ) (s : Fin 2) {A : Vec F S512x4096 .f32}
    {f : Vec F S1x512x2048 .bf16 → Vec F S512x2048 .f32 → Vec F S512x2048 .f32} (hf : f = k0_pay15) {s' : DmaSem sig} (hs : s' = stgS b)
    {t : ℕ} (ht : t = 4 + s.val) {sp : Space} {sh : Shape} {e : EltTy} {m₁ : Memref sig .tc sp sh e} {h1 h2 inb hl inb' hl' inb2 hl2 inb'' hx hm}
    {k : PUnit → Prog (TpuEff nD τ sig (Elt F) Λ₀ .tc) α} :
    iprop(ctx D κ ks ∗ fetching D b c 1 s ∗ owns (c : Thread nD τ) (cS b (sl t)) fullShare (rcvd D b t c) ∗ owns (c : Thread nD τ) (aS s) fullShare A ∗ owesN c n)
      ⊢ iprop((iprop(idle D b c (xV D b c 1 s) ∗ owns (c : Thread nD τ) (cS b (sl t)) fullShare (rcvd D b t c) ∗ owns (c : Thread nD τ) (aS s) fullShare (acc1 D b s c A) ∗ owesN c n) -∗ WP c (k ⟨⟩) Q)
        -∗ WP c (.op (.waitDma2 s' m₁ (sM b) h1 h2) fun _ =>
            .op (.load (cM b) (Rect.unit (s := S4x512x2048) ![(sl t).val, 0, 0] S1x512x2048.size inb').toLoadRect hl') fun x =>
            .op (.load (sM b) (Rect.unit (s := S512x2048) ![0, 0] S512x2048.size inb).toLoadRect hl) fun y =>
            .op (.load aM (Rect.unit (s := S1024x4096) ![512 * s.val + 0, col b] S512x2048.size inb2).toLoadRect hl2) fun _ =>
            .op (.store aM (Rect.unit (s := S1024x4096) ![512 * s.val + 0, col b] S512x2048.size inb'') (f x y) Finset.univ hx hm) k) Q) := by
  subst hs; subst hf
  iintro ⟨#HC, HB, HS, HA, HO⟩ Hk
  iapply (wait_here n (D := D) (κ := κ) (ks := ks) (s := stgS b) rfl) $$ [HB HO]
  · iframe; iexact HC
  iintro ⟨HI, HO⟩
  unfold idle
  icases HI with ⟨Hi, HY, Hv⟩
  iapply (load_own (m := cM b) (r := cR (sl t)) (hr := fun _ => rfl)) $$ HS
  iintro HS
  iapply (load_st b) $$ HY
  iintro HY
  iapply (load_acc (s := s) hrH (hcH b) rfl) $$ HA
  iintro HA
  iapply (store_acc (s := s) hrH (hcH b) rfl) $$ HA
  iintro HA
  have e1 : putPart (n := 512) (k := 2048) 0 (col b) A (k0_pay15 (rcvd D b t c) (xV D b c 1 s)) = acc1 D b s c A := by
    subst ht; rw [sum_eq]; rfl
  ihave HA := (Entails.of_eq (congrArg (owns (c : Thread nD τ) (aS s) fullShare) e1)) $$ HA
  iapply Hk
  iframe

/-- Wait for the residual and add it. -/
theorem add_res (b : Bool) (n : ℕ) (s : Fin 2) {A : Vec F S512x4096 .f32}
    {f : Vec F S512x2048 .f32 → Vec F S512x2048 .f32 → Vec F S512x2048 .f32} (hf : f = k0_pay17) {s' : DmaSem sig} (hs : s' = stgS b)
    {sp : Space} {sh : Shape} {e : EltTy} {m₁ : Memref sig .tc sp sh e} {h1 h2 inb hl inb' hl' inb2 hl2 inb'' hx hm}
    {k : PUnit → Prog (TpuEff nD τ sig (Elt F) Λ₀ .tc) α} :
    iprop(ctx D κ ks ∗ busy c (stgS b) (sM b).view.dmaCredit (idle D b c (gV D b c 1 s)) ∗ owns (c : Thread nD τ) (aS s) fullShare A ∗ owesN c n)
      ⊢ iprop((iprop(idle D b c (gV D b c 1 s) ∗ owns (c : Thread nD τ) (aS s) fullShare (acc2 D b s c A) ∗ owesN c n) -∗ WP c (k ⟨⟩) Q)
        -∗ WP c (.op (.waitDma2 s' m₁ (sM b) h1 h2) fun _ =>
            .op (.load aM (Rect.unit (s := S1024x4096) ![512 * s.val + 0, col b] S512x2048.size inb').toLoadRect hl') fun x =>
            .op (.load (sM b) (Rect.unit (s := S512x2048) ![0, 0] S512x2048.size inb).toLoadRect hl) fun y =>
            .op (.load aM (Rect.unit (s := S1024x4096) ![512 * s.val + 0, col b] S512x2048.size inb2).toLoadRect hl2) fun _ =>
            .op (.store aM (Rect.unit (s := S1024x4096) ![512 * s.val + 0, col b] S512x2048.size inb'') (f x y) Finset.univ hx hm) k) Q) := by
  subst hs; subst hf
  iintro ⟨#HC, HB, HA, HO⟩ Hk
  iapply (wait_here n (D := D) (κ := κ) (ks := ks) (s := stgS b) rfl) $$ [HB HO]
  · iframe; iexact HC
  iintro ⟨HI, HO⟩
  unfold idle
  icases HI with ⟨Hi, HY, Hv⟩
  iapply (load_acc (s := s) hrH (hcH b) rfl) $$ HA
  iintro HA
  iapply (load_st b) $$ HY
  iintro HY
  iapply (load_acc (s := s) hrH (hcH b) rfl) $$ HA
  iintro HA
  iapply (store_acc (s := s) hrH (hcH b) rfl) $$ HA
  iintro HA
  iapply Hk
  unfold acc2
  iframe

/-- Normalise 256 rows. -/
theorem norm (s t : Fin 2) {A : Vec F S512x4096 .f32}
    {f : Vec F S256x4096 .f32 → Vec F S1x4096 .f32 → Vec F S256x4096 .f32} (hf : f = k0_pay20)
    {inb hl inb' hl' inb2 hl2 inb'' hx hm} {k : PUnit → Prog (TpuEff nD τ sig (Elt F) Λ₀ .tc) α} :
    iprop(owns (c : Thread nD τ) wM fullShare (D.w c) ∗ owns (c : Thread nD τ) (aS s) fullShare A)
      ⊢ iprop((iprop(owns (c : Thread nD τ) wM fullShare (D.w c) ∗ owns (c : Thread nD τ) (aS s) fullShare (acc3 D t c A)) -∗ WP c (k ⟨⟩) Q)
        -∗ WP c (.op (.load aM (Rect.unit (s := S1024x4096) ![512 * s.val + 256 * t.val, 0] S256x4096.size inb').toLoadRect hl') fun x =>
            .op (.load wM (Rect.unit (s := S1x4096) ![0, 0] S1x4096.size inb).toLoadRect hl) fun y =>
            .op (.load aM (Rect.unit (s := S1024x4096) ![512 * s.val + 256 * t.val, 0] S256x4096.size inb2).toLoadRect hl2) fun _ =>
            .op (.store aM (Rect.unit (s := S1024x4096) ![512 * s.val + 256 * t.val, 0] S256x4096.size inb'') (f x y) Finset.univ hx hm) k) Q) := by
  subst hf
  iintro ⟨HW, HA⟩ Hk
  iapply (load_acc (s := s) (hrT t) hcT rfl) $$ HA
  iintro HA
  iapply load_gamma $$ HW
  iintro HW
  iapply (load_acc (s := s) (hrT t) hcT rfl) $$ HA
  iintro HA
  iapply (store_acc (s := s) (hrT t) hcT rfl) $$ HA
  iintro HA
  iapply Hk
  unfold acc3
  iframe

/-- Convert one ring's half of the finished block. -/
theorem half_out (b : Bool) (s : Fin 2) {f : Vec F S512x2048 .f32 → Vec F S1x512x2048 .bf16} (hf : f = k0_pay1)
    {inb' hl' inb2 hl2 inb'' hx hm} {k : PUnit → Prog (TpuEff nD τ sig (Elt F) Λ₀ .tc) α} :
    iprop(owns (c : Thread nD τ) (aS s) fullShare (ownV D s c) ∗ vA b s c)
      ⊢ iprop((iprop(owns (c : Thread nD τ) (aS s) fullShare (ownV D s c) ∗ owns (c : Thread nD τ) (vS b s) fullShare (sent D b (6 + s.val) c)) -∗ WP c (k ⟨⟩) Q)
        -∗ WP c (.op (.load aM (Rect.unit (s := S1024x4096) ![512 * s.val + 0, col b] S512x2048.size inb').toLoadRect hl') fun x =>
            .op (.load (vM b) (Rect.unit (s := S2x512x2048) ![s.val, 0, 0] S1x512x2048.size inb2).toLoadRect hl2) fun _ =>
            .op (.store (vM b) (Rect.unit (s := S2x512x2048) ![s.val, 0, 0] S1x512x2048.size inb'') (f x) Finset.univ hx hm) k) Q) := by
  subst hf
  unfold vA
  iintro ⟨HA, %X, HV⟩ Hk
  iapply (load_acc (s := s) hrH (hcH b) rfl) $$ HA
  iintro HA
  iapply (load_own (m := vM b) (r := vR s) (hr := fun _ => rfl)) $$ HV
  iintro HV
  have e1 : k0_pay1 (part (n := 512) (k := 2048) 0 (col b) hrH (hcH b) (ownV D s c)) = sent D b (6 + s.val) c := by
    refine (congrArg k0_pay1 (half_own D b s c)).trans ?_
    match s with
    | 0 => rfl
    | 1 => rfl
  rw [e1]
  iapply (store_own (m := vM b) (r := vR s) (hr := fun _ => rfl) (w := sent D b (6 + s.val) c)) $$ HV
  iintro HV
  iapply Hk
  iframe

theorem slot_any (b : Bool) (t t' : Fin 4) (h : t = t') (X : Vec F S1x512x2048 .bf16) :
    owns (c : Thread nD τ) (cS b t) fullShare X ⊢ slotA b t' c := by
  subst h; unfold slotA; iintro H; iexists _; iexact H

theorem slot_num (b : Bool) (t t' : Fin 4) (h : t = t') : slotA (F := F) b t c ⊢ slotA b t' c := by
  subst h; iintro H; iexact H

theorem idle_any (b : Bool) (Y : Vec F S512x2048 .f32) : idle D b c Y ⊢ iprop(∃ Y, idle D b c Y) := by
  iintro H; iexists _; iexact H

/-! ## What the two rings share -/

def oFA (s : Fin 2) (c : Dev nD) : sProp 𝕄 := iprop(∃ X, owns (c : Thread nD τ) (oF c s) fullShare X)
def sOwn (s : Fin 2) (c : Dev nD) : sProp 𝕄 := semVal ((c : Thread nD τ), SemLoc.dma (ownS s)) 0
def accA (s : Fin 2) (c : Dev nD) : sProp 𝕄 := iprop(∃ A, owns (c : Thread nD τ) (aS s) fullShare A)
/-- A finished half is being copied out. -/
def ownGo (s : Fin 2) (c : Dev nD) : sProp 𝕄 :=
  busy c (ownS s) (oF c s).view.dmaCredit iprop(owns (c : Thread nD τ) (aS s) fullShare (ownV D s c) ∗ owns (c : Thread nD τ) (oF c s) fullShare (ownV D s c)
    ∗ semVal ((c : Thread nD τ), SemLoc.dma (ownS s)) 0)

/-- Copy the finished half out. -/
theorem copy_own (s : Fin 2) {off : Fin 2 → ℕ} (hoff : off = ![row c 1 s, 0]) {s' : DmaSem sig} (hs : s' = ownS s) {inb inb' h1 h2 h3}
    {k : PUnit → Prog (TpuEff nD τ sig (Elt F) Λ₀ .tc) α} :
    iprop(owns (c : Thread nD τ) (aS s) fullShare (ownV D s c) ∗ oFA s c ∗ sOwn s c)
      ⊢ iprop((ownGo D s c -∗ WP c (k ⟨⟩) Q)
        -∗ WP c (.op (.enqueueDma (aM.slice (Rect.unit (s := S1024x4096) ![512 * s.val, 0] S512x4096.size inb') (fun _ => rfl))
          (.here (oM.slice (Rect.unit (s := S4096x4096) off S512x4096.size inb) (fun _ => rfl))) (.dma s') h1 h2 h3) k) Q) := by
  subst hoff; subst hs
  unfold oFA sOwn ownGo
  iintro ⟨HA, ⟨%X, HP⟩, HV⟩ Hk
  iapply (copy_here (m₁ := aS s) (m₂ := oF c s) (s := ownS s) (by decide)) $$ [HA HP HV]
  · iframe
  iexact Hk

def MidC (c : Dev nD) : sProp 𝕄 :=
  iprop(owns (c : Thread nD τ) wM fullShare (D.w c) ∗ accA 0 c ∗ accA 1 c ∗ oFA 0 c ∗ oFA 1 c ∗ sOwn 0 c ∗ sOwn 1 c)
def MidD (c : Dev nD) : sProp 𝕄 := iprop(owns (c : Thread nD τ) wM fullShare (D.w c) ∗ accA 1 c ∗ oFA 1 c ∗ sOwn 1 c ∗ ownGo D 0 c)
def MidE (c : Dev nD) : sProp 𝕄 := iprop(owns (c : Thread nD τ) wM fullShare (D.w c) ∗ ownGo D 0 c ∗ ownGo D 1 c)

def MidZ (c : Dev nD) : sProp 𝕄 :=
  iprop(owns (c : Thread nD τ) wM fullShare (D.w c) ∗ owns (c : Thread nD τ) (aS 0) fullShare (ownV D 0 c) ∗ owns (c : Thread nD τ) (aS 1) fullShare (ownV D 1 c)
    ∗ owns (c : Thread nD τ) (oF c 0) fullShare (ownV D 0 c) ∗ owns (c : Thread nD τ) (oF c 1) fullShare (ownV D 1 c) ∗ sOwn 0 c ∗ sOwn 1 c)

/-! ## The pieces of the result that hold the other devices' blocks -/

/-- A piece that has been written. -/
def oD (b : Bool) (t : Fin 3) (s : Fin 2) (c : Dev nD) : sProp 𝕄 :=
  owns (c : Thread nD τ) (oP b c (oK b t) s) fullShare (k0_pay34 (rcvd D b (6 + 2 * t.val + s.val) c))

/-- The pieces a ring has still to write, from the `t`-th on. -/
def Todo (b : Bool) (t : Fin 3) (c : Dev nD) : sProp 𝕄 := iprop(oA b (oK b t) 0 c ∗ oA b (oK b t) 1 c)
def Done (b : Bool) (t : Fin 3) (c : Dev nD) : sProp 𝕄 := iprop(oD D b t 0 c ∗ oD D b t 1 c)

theorem credit_out {sp} (m : Memref sig .tc sp S512x2048 .f32) (b : Bool) (k : Fin 4) (s : Fin 2) :
    m.view.dmaCredit = (oP b c k s).view.dmaCredit := rfl

/-- A received block is passed on from one half share of its slot and copied out from the other. -/
theorem lend (b : Bool) (j : ℕ) (h : 6 ≤ j) :
    (owns (c : Thread nD τ) (cS b (sl j)) fullShare (rcvd D b j c) : sProp 𝕄)
      ⊢ iprop(owns (c : Thread nD τ) (cS b (sl j)) fullShare.left (sent D b (j + 2) c) ∗ owns (c : Thread nD τ) (cS b (sl j)) fullShare.right (rcvd D b j c)) := by
  rw [sent_add D b j h]; exact owns_half

theorem credit_own {sp} (m : Memref sig .tc sp S512x4096 .f32) (s : Fin 2) : m.view.dmaCredit = (oF c s).view.dmaCredit := rfl

/-- Both half shares of a slot make it whole. -/
theorem back (b : Bool) (t t' t'' : Fin 4) (h : t = t'') (h' : t' = t'') (X Y : Vec F S1x512x2048 .bf16) :
    iprop(owns (c : Thread nD τ) (cS b t) fullShare.left X ∗ owns (c : Thread nD τ) (cS b t') fullShare.right Y) ⊢ slotA b t'' c := by
  subst h; subst h'; unfold slotA
  iintro H
  iexists X
  iapply owns_join $$ H

end Cert.RingProof
-- ==== Proof.SegC.lean ====
/-
# 01_k — the body up to the first finished block
-/
module

public import proofs.«01_k».proof.Proof.Epilogue

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segC {Q : PUnit → sProp 𝕄} (v4 v7 v18 v21 v24 v30 v33 v36 v349 : BitVec 32) :
    iprop(ctx D κ ks ∗ RingC D true c ∗ RingC D false c ∗ owesN c 18 ∗ MidC D c)
      ⊢ iprop((iprop(RingD D true c ∗ RingD D false c ∗ owesN c 22 ∗ MidD D c)
            -∗ WP c (restD c v4 v7 v18 v21 v24 v30 v33 v36 v349) Q) -∗ WP c (restC c v4 v7 v18 v21 v24 v30 v33 v36 v349) Q) := by
  unfold RingC MidC accA
  iintro ⟨#HC, ⟨RA, RR, RG, RT, RB4, RB5, RI6, RI7, RV0, RV1, RS⟩, ⟨LA, LR, LG, LT, LB4, LB5, LI6, LI7, LV0, LV1, LS⟩, HO, HW, ⟨%A, HA⟩, HA1, HP0, HP1, Hs0, Hs1⟩ Hk
  unfold restC ap
  simp only [k0_part19_eq_skeleton, k0_part20_eq_skeleton, k0_part21_eq_skeleton]; unfold k0_part19_skel k0_part20_skel k0_part21_skel
  simp only [semSignalWord, semWaitWord, Prog.lift, Prog.bind_op, Prog.bind_ret, Prog.pure_eq_ret, Prog.bind_assoc]
  iapply (recv (D := D) (κ := κ) (ks := ks) true 4 18 (by decide) (by decide) rfl (credit_any _)) $$ [RR HO]
  · iframe; iexact HC
  iintro ⟨RR, RC, HO⟩
  iapply (recv (D := D) (κ := κ) (ks := ks) false 4 18 (by decide) (by decide) rfl (credit_any _)) $$ [LR HO]
  · iframe; iexact HC
  iintro ⟨LR, LC, HO⟩
  iapply (put_sum D (κ := κ) (ks := ks) true 18 0 (f := k0_pay15) rfl rfl (t := 4) rfl) $$ [RS RC HA HO]
  · iframe; iexact HC
  iintro ⟨RS, RC, HA, HO⟩
  iapply (fetch_g D true 1 0 (off3 1 0 c)) $$ RS
  iintro RS
  iapply (put_sum D (κ := κ) (ks := ks) false 18 0 (f := k0_pay16) rfl rfl (t := 4) rfl) $$ [LS LC HA HO]
  · iframe; iexact HC
  iintro ⟨LS, LC, HA, HO⟩
  iapply (fetch_g D false 1 0 (off4 1 0 c)) $$ LS
  iintro LS
  iapply (add_res D (κ := κ) (ks := ks) true 18 0 (f := k0_pay17) rfl rfl) $$ [RS HA HO]
  · iframe; iexact HC
  iintro ⟨RS, HA, HO⟩
  iapply (add_res D (κ := κ) (ks := ks) false 18 0 (f := fun x y => k0_pay19 (k0_pay18 x y)) rfl rfl) $$ [LS HA HO]
  · iframe; iexact HC
  iintro ⟨LS, HA, HO⟩
  ihave HA := (Entails.of_eq (congrArg (owns (c : Thread nD τ) (aS 0) fullShare) (acc_sum D 0 c A))) $$ HA
  iapply (norm D 0 0 (f := k0_pay20) rfl) $$ [HW HA]
  · iframe
  iintro ⟨HW, HA⟩
  iapply (norm D 0 1 (f := k0_pay21) rfl) $$ [HW HA]
  · iframe
  iintro ⟨HW, HA⟩
  ihave HA := (Entails.of_eq (congrArg (owns (c : Thread nD τ) (aS 0) fullShare) (acc_own D 0 c))) $$ HA
  simp only [k0_part22_eq_skeleton, k0_part23_eq_skeleton, k0_part24_eq_skeleton]; unfold k0_part22_skel k0_part23_skel k0_part24_skel
  simp only [semSignalWord, semWaitWord, Prog.lift, Prog.bind_op, Prog.bind_ret, Prog.pure_eq_ret, Prog.bind_assoc]
  iapply (free D (κ := κ) (ks := ks) true 4 18 5 (by decide) (by decide) (by decide) rfl rfl (credit_any _) (to_dev false _ (k0_dev19_eq c)) rfl) $$ [RB4 RG RR HO]
  · iframe; iexact HC
  iintro ⟨RI8, RG, RR, HO⟩
  iapply (free D (κ := κ) (ks := ks) false 4 19 5 (by decide) (by decide) (by decide) rfl rfl (credit_any _) (to_dev true _ (k0_dev20_eq c)) rfl) $$ [LB4 LG LR HO]
  · iframe; iexact HC
  iintro ⟨LI8, LG, LR, HO⟩
  iapply (half_out D true 0 (f := k0_pay22) rfl) $$ [HA RV0]
  · iframe
  iintro ⟨HA, RV0⟩
  iapply (resend D (κ := κ) (ks := ks) true 2 20 (by decide) (by decide) rfl rfl (m := vS true 0) (src_cv D true 6 (by decide)) (to_dev true _ (k0_dev21_eq c))) $$ [RT RA RI6 RV0 HO]
  · iframe; iexact HC
  iintro ⟨RT, RA, RB6, HO⟩
  iapply (fetch_x D true 1 1 (off1 1 1 c)) $$ RS
  iintro RS
  iapply (half_out D false 0 (f := k0_pay23) rfl) $$ [HA LV0]
  · iframe
  iintro ⟨HA, LV0⟩
  iapply (resend D (κ := κ) (ks := ks) false 2 21 (by decide) (by decide) rfl rfl (m := vS false 0) (src_cv D false 6 (by decide)) (to_dev false _ (k0_dev22_eq c))) $$ [LT LA LI6 LV0 HO]
  · iframe; iexact HC
  iintro ⟨LT, LA, LB6, HO⟩
  iapply (fetch_x D false 1 1 (off2 1 1 c)) $$ LS
  iintro LS
  iapply (copy_own D 0 (off5 0 c) rfl) $$ [HA HP0 Hs0]
  · iframe
  iintro HA
  iapply (recv (D := D) (κ := κ) (ks := ks) true 5 22 (by decide) (by decide) rfl (credit_any _)) $$ [RR HO]
  · iframe; iexact HC
  iintro ⟨RR, RD, HO⟩
  iapply (recv (D := D) (κ := κ) (ks := ks) false 5 22 (by decide) (by decide) rfl (credit_any _)) $$ [LR HO]
  · iframe; iexact HC
  iintro ⟨LR, LD, HO⟩
  ihave RC := (slot_any true (sl 4) 0 rfl _) $$ RC
  ihave LC := (slot_any false (sl 4) 0 rfl _) $$ LC
  iapply Hk
  unfold RingD MidD accA
  iframe

end Cert.RingProof
-- ==== Proof.SegD.lean ====
/-
# 01_k — the body up to the second finished block
-/
module

public import proofs.«01_k».proof.Proof.Epilogue

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segD {Q : PUnit → sProp 𝕄} (v4 v7 v18 v21 v24 v30 v33 v36 v349 : BitVec 32) :
    iprop(ctx D κ ks ∗ RingD D true c ∗ RingD D false c ∗ owesN c 22 ∗ MidD D c)
      ⊢ iprop((iprop(RingE D true c ∗ RingE D false c ∗ owesN c 30 ∗ MidE D c)
            -∗ WP c (restE c v4 v7 v18 v21 v24 v30 v33 v36) Q) -∗ WP c (restD c v4 v7 v18 v21 v24 v30 v33 v36 v349) Q) := by
  unfold RingD MidD accA
  iintro ⟨#HC, ⟨RA, RR, RG, RT, RI8, RB5, RB6, RI7, RX, RC, RV1, RS⟩, ⟨LA, LR, LG, LT, LI8, LB5, LB6, LI7, LX, LC, LV1, LS⟩, HO, HW, ⟨%A, HA⟩, HP1, Hs1, HG⟩ Hk
  unfold restD ap
  simp only [k0_part25_eq_skeleton, k0_part26_eq_skeleton, k0_part27_eq_skeleton]; unfold k0_part25_skel k0_part26_skel k0_part27_skel
  simp only [semSignalWord, semWaitWord, Prog.lift, Prog.bind_op, Prog.bind_ret, Prog.pure_eq_ret, Prog.bind_assoc]
  iapply (put_sum D (κ := κ) (ks := ks) true 22 1 (f := k0_pay24) rfl rfl (t := 5) rfl) $$ [RS RC HA HO]
  · iframe; iexact HC
  iintro ⟨RS, RC, HA, HO⟩
  iapply (fetch_g D true 1 1 (off3 1 1 c)) $$ RS
  iintro RS
  iapply (put_sum D (κ := κ) (ks := ks) false 22 1 (f := k0_pay25) rfl rfl (t := 5) rfl) $$ [LS LC HA HO]
  · iframe; iexact HC
  iintro ⟨LS, LC, HA, HO⟩
  iapply (fetch_g D false 1 1 (off4 1 1 c)) $$ LS
  iintro LS
  iapply (add_res D (κ := κ) (ks := ks) true 22 1 (f := k0_pay26) rfl rfl) $$ [RS HA HO]
  · iframe; iexact HC
  iintro ⟨RS, HA, HO⟩
  iapply (add_res D (κ := κ) (ks := ks) false 22 1 (f := k0_pay27) rfl rfl) $$ [LS HA HO]
  · iframe; iexact HC
  iintro ⟨LS, HA, HO⟩
  ihave HA := (Entails.of_eq (congrArg (owns (c : Thread nD τ) (aS 1) fullShare) (acc_sum D 1 c A))) $$ HA
  iapply (norm D 1 0 (f := k0_pay28) rfl) $$ [HW HA]
  · iframe
  iintro ⟨HW, HA⟩
  iapply (norm D 1 1 (f := fun x y => k0_pay30 x (k0_pay29 x) y) rfl) $$ [HW HA]
  · iframe
  iintro ⟨HW, HA⟩
  ihave HA := (Entails.of_eq (congrArg (owns (c : Thread nD τ) (aS 1) fullShare) (acc_own D 1 c))) $$ HA
  ihave RC := (slot_any true (sl 5) (sl 5) rfl _) $$ RC
  ihave LC := (slot_any false (sl 5) (sl 5) rfl _) $$ LC
  ihave RX := (slot_num true 0 (sl 4) rfl) $$ RX
  ihave LX := (slot_num false 0 (sl 4) rfl) $$ LX
  iapply (free D (κ := κ) (ks := ks) true 5 22 6 (by decide) (by decide) (by decide) rfl rfl (credit_any _) (to_dev false _ (k0_dev23_eq c)) rfl) $$ [RB5 RG RR HO]
  · iframe; iexact HC
  iintro ⟨RI9, RG, RR, HO⟩
  iapply (sig_give (D := D) (κ := κ) (ks := ks) true 4 23 6 (by decide) (by decide) rfl (to_dev false _ (k0_dev24_eq c)) rfl) $$ [RG RX RR HO]
  · iframe; iexact HC
  iintro ⟨RG, RR, HO⟩
  simp only [k0_part28_eq_skeleton, k0_part29_eq_skeleton]; unfold k0_part28_skel k0_part29_skel
  simp only [semSignalWord, semWaitWord, Prog.lift, Prog.bind_op, Prog.bind_ret, Prog.pure_eq_ret, Prog.bind_assoc]
  iapply (free D (κ := κ) (ks := ks) false 5 24 6 (by decide) (by decide) (by decide) rfl rfl (credit_any _) (to_dev true _ (k0_dev25_eq c)) rfl) $$ [LB5 LG LR HO]
  · iframe; iexact HC
  iintro ⟨LI9, LG, LR, HO⟩
  iapply (sig_give (D := D) (κ := κ) (ks := ks) false 4 25 6 (by decide) (by decide) rfl (to_dev true _ (k0_dev26_eq c)) rfl) $$ [LG LX LR HO]
  · iframe; iexact HC
  iintro ⟨LG, LR, HO⟩
  iapply (half_out D true 1 (f := k0_pay31) rfl) $$ [HA RV1]
  · iframe
  iintro ⟨HA, RV1⟩
  iapply (resend D (κ := κ) (ks := ks) true 3 26 (by decide) (by decide) rfl rfl (m := vS true 1) (src_cv D true 7 (by decide)) (to_dev true _ (k0_dev27_eq c))) $$ [RT RA RI7 RV1 HO]
  · iframe; iexact HC
  iintro ⟨RT, RA, RB7, HO⟩
  iapply (half_out D false 1 (f := fun x => k0_pay33 (k0_pay32 x)) rfl) $$ [HA LV1]
  · iframe
  iintro ⟨HA, LV1⟩
  iapply (resend D (κ := κ) (ks := ks) false 3 27 (by decide) (by decide) rfl rfl (m := vS false 1) (src_cv D false 7 (by decide)) (to_dev false _ (k0_dev28_eq c))) $$ [LT LA LI7 LV1 HO]
  · iframe; iexact HC
  iintro ⟨LT, LA, LB7, HO⟩
  iapply (copy_own D 1 (off5 1 c) rfl) $$ [HA HP1 Hs1]
  · iframe
  iintro HA
  iapply (sig_give (D := D) (κ := κ) (ks := ks) true 5 28 6 (by decide) (by decide) rfl (to_dev false _ (k0_dev29_eq c)) rfl) $$ [RG RC RR HO]
  · iframe; iexact HC
  iintro ⟨RG, RR, HO⟩
  iapply (sig_give (D := D) (κ := κ) (ks := ks) false 5 29 6 (by decide) (by decide) rfl (to_dev true _ (k0_dev30_eq c)) rfl) $$ [LG LC LR HO]
  · iframe; iexact HC
  iintro ⟨LG, LR, HO⟩
  ihave RS := (idle_any D true _) $$ RS
  ihave LS := (idle_any D false _) $$ LS
  iapply Hk
  unfold RingE MidE
  iframe

end Cert.RingProof
-- ==== Proof.SegE.lean ====
/-
# 01_k — the body up to the second block received
-/
module

public import proofs.«01_k».proof.Proof.Epilogue

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segE {Q : PUnit → sProp 𝕄} (v4 v7 v18 v21 v24 v30 v33 v36 : BitVec 32) :
    iprop(ctx D κ ks ∗ RingE D true c ∗ RingE D false c ∗ owesN c 30 ∗ Todo true 0 c ∗ Todo false 0 c)
      ⊢ iprop((∀ v904, iprop(RingF D true c ∗ RingF D false c ∗ owesN c 36 ∗ Done D true 0 c ∗ Done D false 0 c)
            -∗ WP c (restF c v4 v7 v21 v24 v33 v36 v904) Q) -∗ WP c (restE c v4 v7 v18 v21 v24 v30 v33 v36) Q) := by
  unfold RingE Todo
  iintro ⟨#HC, ⟨RA, RR, RG, RT, RI8, RI9, RB6, RB7, RY⟩, ⟨LA, LR, LG, LT, LI8, LI9, LB6, LB7, LY⟩, HO, ⟨RP00, RP01⟩, ⟨LP00, LP01⟩⟩ Hk
  unfold restE ap
  simp only [k0_part30_eq_skeleton, k0_part31_eq_skeleton, k0_part32_eq_skeleton, k0_part33_eq_skeleton, k0_part34_eq_skeleton]; unfold k0_part30_skel k0_part31_skel k0_part32_skel k0_part33_skel k0_part34_skel
  simp only [semSignalWord, semWaitWord, Prog.lift, Prog.bind_op, Prog.bind_ret, Prog.pure_eq_ret, Prog.bind_assoc]
  iapply (recv (D := D) (κ := κ) (ks := ks) true 6 30 (by decide) (by decide) rfl (credit_any _)) $$ [RR HO]
  · iframe; iexact HC
  iintro ⟨RR, RC, HO⟩
  ihave RC := (lend D true 6 (by decide)) $$ RC
  icases RC with ⟨RC, RD6⟩
  iapply (resend D (κ := κ) (ks := ks) true 4 30 (by decide) (by decide) rfl rfl (m := cS true (sl 6)) (src_lent D true 8 (by decide) (by decide)) (to_dev true _ (k0_dev31_eq c))) $$ [RT RA RI8 RC HO]
  · iframe; iexact HC
  iintro ⟨RT, RA, RB8, HO⟩
  iapply (put_out D (κ := κ) (ks := ks) true 31 (sl 6) (oK true 0) 0 (f := k0_pay34) (off3 0 0 c) rfl rfl (credit_out _ _ _ _)) $$ [RD6 RY RP00 HO]
  · iframe; iexact HC
  iintro ⟨RD6, RY, RP00, HO⟩
  ihave RP00 := (Entails.of_eq (show owns (c : Thread nD τ) (oP true c (oK true 0) 0) fullShare ((k0_pay34) (rcvd D true 6 c)) = oD D true 0 0 c from rfl)) $$ RP00
  iapply (recv (D := D) (κ := κ) (ks := ks) false 6 31 (by decide) (by decide) rfl (credit_any _)) $$ [LR HO]
  · iframe; iexact HC
  iintro ⟨LR, LC, HO⟩
  ihave LC := (lend D false 6 (by decide)) $$ LC
  icases LC with ⟨LC, LD6⟩
  iapply (resend D (κ := κ) (ks := ks) false 4 31 (by decide) (by decide) rfl rfl (m := cS false (sl 6)) (src_lent D false 8 (by decide) (by decide)) (to_dev false _ (k0_dev32_eq c))) $$ [LT LA LI8 LC HO]
  · iframe; iexact HC
  iintro ⟨LT, LA, LB8, HO⟩
  iapply (put_out D (κ := κ) (ks := ks) false 32 (sl 6) (oK false 0) 0 (f := k0_pay35) (off4 2 0 c) rfl rfl (credit_out _ _ _ _)) $$ [LD6 LY LP00 HO]
  · iframe; iexact HC
  iintro ⟨LD6, LY, LP00, HO⟩
  ihave LP00 := (Entails.of_eq (show owns (c : Thread nD τ) (oP false c (oK false 0) 0) fullShare ((k0_pay35) (rcvd D false 6 c)) = oD D false 0 0 c from rfl)) $$ LP00
  iapply (recv (D := D) (κ := κ) (ks := ks) true 7 32 (by decide) (by decide) rfl (credit_any _)) $$ [RR HO]
  · iframe; iexact HC
  iintro ⟨RR, RC, HO⟩
  ihave RC := (lend D true 7 (by decide)) $$ RC
  icases RC with ⟨RC, RD7⟩
  iapply (resend D (κ := κ) (ks := ks) true 5 32 (by decide) (by decide) rfl rfl (m := cS true (sl 7)) (src_lent D true 9 (by decide) (by decide)) (to_dev true _ (k0_dev33_eq c))) $$ [RT RA RI9 RC HO]
  · iframe; iexact HC
  iintro ⟨RT, RA, RB9, HO⟩
  iapply (put_out D (κ := κ) (ks := ks) true 33 (sl 7) (oK true 0) 1 (f := k0_pay36) (off3 0 1 c) rfl rfl (credit_out _ _ _ _)) $$ [RD7 RY RP01 HO]
  · iframe; iexact HC
  iintro ⟨RD7, RY, RP01, HO⟩
  ihave RP01 := (Entails.of_eq (show owns (c : Thread nD τ) (oP true c (oK true 0) 1) fullShare ((k0_pay36) (rcvd D true 7 c)) = oD D true 0 1 c from rfl)) $$ RP01
  iapply (recv (D := D) (κ := κ) (ks := ks) false 7 33 (by decide) (by decide) rfl (credit_any _)) $$ [LR HO]
  · iframe; iexact HC
  iintro ⟨LR, LC, HO⟩
  ihave LC := (lend D false 7 (by decide)) $$ LC
  icases LC with ⟨LC, LD7⟩
  iapply (resend D (κ := κ) (ks := ks) false 5 33 (by decide) (by decide) rfl rfl (m := cS false (sl 7)) (src_lent D false 9 (by decide) (by decide)) (to_dev false _ (k0_dev34_eq c))) $$ [LT LA LI9 LC HO]
  · iframe; iexact HC
  iintro ⟨LT, LA, LB9, HO⟩
  iapply (put_out D (κ := κ) (ks := ks) false 34 (sl 7) (oK false 0) 1 (f := k0_pay37) (off4 2 1 c) rfl rfl (credit_out _ _ _ _)) $$ [LD7 LY LP01 HO]
  · iframe; iexact HC
  iintro ⟨LD7, LY, LP01, HO⟩
  ihave LP01 := (Entails.of_eq (show owns (c : Thread nD τ) (oP false c (oK false 0) 1) fullShare ((k0_pay37) (rcvd D false 7 c)) = oD D false 0 1 c from rfl)) $$ LP01
  iapply (free' D (κ := κ) (ks := ks) true 8 34 8 (by decide) (by decide) (by decide) rfl rfl (credit_any _) (to_dev false _ (k0_dev35_eq c)) rfl) $$ [RB8 RD6 RG RR HO]
  · iframe; iexact HC
  iintro ⟨RI12, RG, RR, HO⟩
  iapply (free' D (κ := κ) (ks := ks) false 8 35 8 (by decide) (by decide) (by decide) rfl rfl (credit_any _) (to_dev true _ (k0_dev36_eq c)) rfl) $$ [LB8 LD6 LG LR HO]
  · iframe; iexact HC
  iintro ⟨LI12, LG, LR, HO⟩
  iapply Hk
  unfold RingF Done
  iframe

end Cert.RingProof
-- ==== Proof.SegF.lean ====
/-
# 01_k — the body up to the last block received
-/
module

public import proofs.«01_k».proof.Proof.Epilogue

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

set_option maxRecDepth 65536 in
theorem segF {Q : PUnit → sProp 𝕄} (v4 v7 v21 v24 v33 v36 v904 : BitVec 32) :
    iprop(ctx D κ ks ∗ RingF D true c ∗ RingF D false c ∗ owesN c 36 ∗ MidE D c ∗ (Todo true 1 c ∗ Todo true 2 c) ∗ (Todo false 1 c ∗ Todo false 2 c))
      ⊢ iprop((iprop(RingZ D true c ∗ RingZ D false c ∗ owesN c 42 ∗ MidZ D c ∗ (Done D true 1 c ∗ Done D true 2 c) ∗ (Done D false 1 c ∗ Done D false 2 c))
            -∗ WP c (.ret ⟨⟩) Q) -∗ WP c (restF c v4 v7 v21 v24 v33 v36 v904) Q) := by
  unfold RingF MidE Todo ownGo
  iintro ⟨#HC, ⟨RA, RR, RG, RT, RI12, RB9, RB6, RB7, RD7, RY⟩, ⟨LA, LR, LG, LT, LI12, LB9, LB6, LB7, LD7, LY⟩, HO, ⟨HW, HG0, HG1⟩, ⟨⟨RP10, RP11⟩, ⟨RP20, RP21⟩⟩, ⟨LP10, LP11⟩, ⟨LP20, LP21⟩⟩ Hk
  unfold restF ap
  simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]; unfold k0_part35_skel k0_part36_skel k0_part37_skel k0_part38_skel k0_part39_skel k0_part40_skel k0_part41_skel k0_part42_skel k0_part43_skel k0_part44_skel
  simp only [semSignalWord, semWaitWord, Prog.lift, Prog.bind_op, Prog.bind_ret, Prog.pure_eq_ret, Prog.bind_assoc]
  iapply (recv (D := D) (κ := κ) (ks := ks) true 8 36 (by decide) (by decide) rfl (credit_any _)) $$ [RR HO]
  · iframe; iexact HC
  iintro ⟨RR, RC, HO⟩
  iapply (sent_wait (D := D) (κ := κ) (ks := ks) true 6 36 (by decide) rfl (credit_any _)) $$ [RB6 HO]
  · iframe; iexact HC
  iintro ⟨RI10, RV0, HO⟩
  ihave RV0 := (src_vA D true 6 0 (by decide) rfl) $$ RV0
  ihave RC := (lend D true 8 (by decide)) $$ RC
  icases RC with ⟨RC, RD8⟩
  iapply (resend D (κ := κ) (ks := ks) true 6 36 (by decide) (by decide) rfl rfl (m := cS true (sl 8)) (src_lent D true 10 (by decide) (by decide)) (to_dev true _ (k0_dev37_eq c))) $$ [RT RA RI10 RC HO]
  · iframe; iexact HC
  iintro ⟨RT, RA, RB10, HO⟩
  iapply (put_out D (κ := κ) (ks := ks) true 37 (sl 8) (oK true 1) 0 (f := fun x => k0_pay39 (k0_pay38 x)) (off3 3 0 c) rfl rfl (credit_out _ _ _ _)) $$ [RD8 RY RP10 HO]
  · iframe; iexact HC
  iintro ⟨RD8, RY, RP10, HO⟩
  ihave RP10 := (Entails.of_eq (show owns (c : Thread nD τ) (oP true c (oK true 1) 0) fullShare ((fun x => k0_pay39 (k0_pay38 x)) (rcvd D true 8 c)) = oD D true 1 0 c from rfl)) $$ RP10
  iapply (recv (D := D) (κ := κ) (ks := ks) false 8 37 (by decide) (by decide) rfl (credit_any _)) $$ [LR HO]
  · iframe; iexact HC
  iintro ⟨LR, LC, HO⟩
  iapply (sent_wait (D := D) (κ := κ) (ks := ks) false 6 37 (by decide) rfl (credit_any _)) $$ [LB6 HO]
  · iframe; iexact HC
  iintro ⟨LI10, LV0, HO⟩
  ihave LV0 := (src_vA D false 6 0 (by decide) rfl) $$ LV0
  ihave LC := (lend D false 8 (by decide)) $$ LC
  icases LC with ⟨LC, LD8⟩
  iapply (resend D (κ := κ) (ks := ks) false 6 37 (by decide) (by decide) rfl rfl (m := cS false (sl 8)) (src_lent D false 10 (by decide) (by decide)) (to_dev false _ (k0_dev38_eq c))) $$ [LT LA LI10 LC HO]
  · iframe; iexact HC
  iintro ⟨LT, LA, LB10, HO⟩
  iapply (put_out D (κ := κ) (ks := ks) false 38 (sl 8) (oK false 1) 0 (f := k0_pay40) (off4 3 0 c) rfl rfl (credit_out _ _ _ _)) $$ [LD8 LY LP10 HO]
  · iframe; iexact HC
  iintro ⟨LD8, LY, LP10, HO⟩
  ihave LP10 := (Entails.of_eq (show owns (c : Thread nD τ) (oP false c (oK false 1) 0) fullShare ((k0_pay40) (rcvd D false 8 c)) = oD D false 1 0 c from rfl)) $$ LP10
  iapply (free' D (κ := κ) (ks := ks) true 9 38 9 (by decide) (by decide) (by decide) rfl rfl (credit_any _) (to_dev false _ (k0_dev39_eq c)) rfl) $$ [RB9 RD7 RG RR HO]
  · iframe; iexact HC
  iintro ⟨RI13, RG, RR, HO⟩
  iapply (free' D (κ := κ) (ks := ks) false 9 39 9 (by decide) (by decide) (by decide) rfl rfl (credit_any _) (to_dev true _ (k0_dev40_eq c)) rfl) $$ [LB9 LD7 LG LR HO]
  · iframe; iexact HC
  iintro ⟨LI13, LG, LR, HO⟩
  iapply (recv (D := D) (κ := κ) (ks := ks) true 9 40 (by decide) (by decide) rfl (credit_any _)) $$ [RR HO]
  · iframe; iexact HC
  iintro ⟨RR, RC, HO⟩
  iapply (sent_wait (D := D) (κ := κ) (ks := ks) true 7 40 (by decide) rfl (credit_any _)) $$ [RB7 HO]
  · iframe; iexact HC
  iintro ⟨RI11, RV1, HO⟩
  ihave RV1 := (src_vA D true 7 1 (by decide) rfl) $$ RV1
  ihave RC := (lend D true 9 (by decide)) $$ RC
  icases RC with ⟨RC, RD9⟩
  iapply (resend D (κ := κ) (ks := ks) true 7 40 (by decide) (by decide) rfl rfl (m := cS true (sl 9)) (src_lent D true 11 (by decide) (by decide)) (to_dev true _ (k0_dev41_eq c))) $$ [RT RA RI11 RC HO]
  · iframe; iexact HC
  iintro ⟨RT, RA, RB11, HO⟩
  iapply (put_out D (κ := κ) (ks := ks) true 41 (sl 9) (oK true 1) 1 (f := k0_pay41) (off3 3 1 c) rfl rfl (credit_out _ _ _ _)) $$ [RD9 RY RP11 HO]
  · iframe; iexact HC
  iintro ⟨RD9, RY, RP11, HO⟩
  ihave RP11 := (Entails.of_eq (show owns (c : Thread nD τ) (oP true c (oK true 1) 1) fullShare ((k0_pay41) (rcvd D true 9 c)) = oD D true 1 1 c from rfl)) $$ RP11
  iapply (recv (D := D) (κ := κ) (ks := ks) false 9 41 (by decide) (by decide) rfl (credit_any _)) $$ [LR HO]
  · iframe; iexact HC
  iintro ⟨LR, LC, HO⟩
  iapply (sent_wait (D := D) (κ := κ) (ks := ks) false 7 41 (by decide) rfl (credit_any _)) $$ [LB7 HO]
  · iframe; iexact HC
  iintro ⟨LI11, LV1, HO⟩
  ihave LV1 := (src_vA D false 7 1 (by decide) rfl) $$ LV1
  ihave LC := (lend D false 9 (by decide)) $$ LC
  icases LC with ⟨LC, LD9⟩
  iapply (resend D (κ := κ) (ks := ks) false 7 41 (by decide) (by decide) rfl rfl (m := cS false (sl 9)) (src_lent D false 11 (by decide) (by decide)) (to_dev false _ (k0_dev42_eq c))) $$ [LT LA LI11 LC HO]
  · iframe; iexact HC
  iintro ⟨LT, LA, LB11, HO⟩
  iapply (put_out D (κ := κ) (ks := ks) false 42 (sl 9) (oK false 1) 1 (f := k0_pay42) (off4 3 1 c) rfl rfl (credit_out _ _ _ _)) $$ [LD9 LY LP11 HO]
  · iframe; iexact HC
  iintro ⟨LD9, LY, LP11, HO⟩
  ihave LP11 := (Entails.of_eq (show owns (c : Thread nD τ) (oP false c (oK false 1) 1) fullShare ((k0_pay42) (rcvd D false 9 c)) = oD D false 1 1 c from rfl)) $$ LP11
  iapply (recv (D := D) (κ := κ) (ks := ks) true 10 42 (by decide) (by decide) rfl (credit_any _)) $$ [RR HO]
  · iframe; iexact HC
  iintro ⟨RR, RD10, HO⟩
  iapply (put_out D (κ := κ) (ks := ks) true 42 (sl 10) (oK true 2) 0 (f := k0_pay43) (off3 2 0 c) rfl rfl (credit_out _ _ _ _)) $$ [RD10 RY RP20 HO]
  · iframe; iexact HC
  iintro ⟨RD10, RY, RP20, HO⟩
  ihave RP20 := (Entails.of_eq (show owns (c : Thread nD τ) (oP true c (oK true 2) 0) fullShare ((k0_pay43) (rcvd D true 10 c)) = oD D true 2 0 c from rfl)) $$ RP20
  iapply (recv (D := D) (κ := κ) (ks := ks) false 10 42 (by decide) (by decide) rfl (credit_any _)) $$ [LR HO]
  · iframe; iexact HC
  iintro ⟨LR, LD10, HO⟩
  iapply (put_out D (κ := κ) (ks := ks) false 42 (sl 10) (oK false 2) 0 (f := k0_pay44) (off4 0 0 c) rfl rfl (credit_out _ _ _ _)) $$ [LD10 LY LP20 HO]
  · iframe; iexact HC
  iintro ⟨LD10, LY, LP20, HO⟩
  ihave LP20 := (Entails.of_eq (show owns (c : Thread nD τ) (oP false c (oK false 2) 0) fullShare ((k0_pay44) (rcvd D false 10 c)) = oD D false 2 0 c from rfl)) $$ LP20
  iapply (recv (D := D) (κ := κ) (ks := ks) true 11 42 (by decide) (by decide) rfl (credit_any _)) $$ [RR HO]
  · iframe; iexact HC
  iintro ⟨RR, RD11, HO⟩
  iapply (put_out D (κ := κ) (ks := ks) true 42 (sl 11) (oK true 2) 1 (f := k0_pay45) (off3 2 1 c) rfl rfl (credit_out _ _ _ _)) $$ [RD11 RY RP21 HO]
  · iframe; iexact HC
  iintro ⟨RD11, RY, RP21, HO⟩
  ihave RP21 := (Entails.of_eq (show owns (c : Thread nD τ) (oP true c (oK true 2) 1) fullShare ((k0_pay45) (rcvd D true 11 c)) = oD D true 2 1 c from rfl)) $$ RP21
  iapply (recv (D := D) (κ := κ) (ks := ks) false 11 42 (by decide) (by decide) rfl (credit_any _)) $$ [LR HO]
  · iframe; iexact HC
  iintro ⟨LR, LD11, HO⟩
  iapply (put_out D (κ := κ) (ks := ks) false 42 (sl 11) (oK false 2) 1 (f := k0_pay46) (off4 0 1 c) rfl rfl (credit_out _ _ _ _)) $$ [LD11 LY LP21 HO]
  · iframe; iexact HC
  iintro ⟨LD11, LY, LP21, HO⟩
  ihave LP21 := (Entails.of_eq (show owns (c : Thread nD τ) (oP false c (oK false 2) 1) fullShare ((k0_pay46) (rcvd D false 11 c)) = oD D false 2 1 c from rfl)) $$ LP21
  iapply (sent_wait (D := D) (κ := κ) (ks := ks) true 10 42 (by decide) rfl (credit_any _)) $$ [RB10 HO]
  · iframe; iexact HC
  iintro ⟨RI14, RC, HO⟩
  ihave RC := (src_lent' D true 10 (by decide) (by decide)) $$ RC
  ihave RC := (back true (sl 12) (sl 8) 0 rfl rfl _ _) $$ [RC RD8]
  · iframe
  irename RC => RX0
  iapply (sent_wait (D := D) (κ := κ) (ks := ks) true 11 42 (by decide) rfl (credit_any _)) $$ [RB11 HO]
  · iframe; iexact HC
  iintro ⟨RI15, RC, HO⟩
  ihave RC := (src_lent' D true 11 (by decide) (by decide)) $$ RC
  ihave RC := (back true (sl 13) (sl 9) 1 rfl rfl _ _) $$ [RC RD9]
  · iframe
  irename RC => RX1
  iapply (sent_wait (D := D) (κ := κ) (ks := ks) false 10 42 (by decide) rfl (credit_any _)) $$ [LB10 HO]
  · iframe; iexact HC
  iintro ⟨LI14, LC, HO⟩
  ihave LC := (src_lent' D false 10 (by decide) (by decide)) $$ LC
  ihave LC := (back false (sl 12) (sl 8) 0 rfl rfl _ _) $$ [LC LD8]
  · iframe
  irename LC => LX0
  iapply (sent_wait (D := D) (κ := κ) (ks := ks) false 11 42 (by decide) rfl (credit_any _)) $$ [LB11 HO]
  · iframe; iexact HC
  iintro ⟨LI15, LC, HO⟩
  ihave LC := (src_lent' D false 11 (by decide) (by decide)) $$ LC
  ihave LC := (back false (sl 13) (sl 9) 1 rfl rfl _ _) $$ [LC LD9]
  · iframe
  irename LC => LX1
  iapply (wait_here 42 (D := D) (κ := κ) (ks := ks) (s := ownS 0) (N := (oF c 0).view.dmaCredit) (credit_own _ 0)) $$ [HG0 HO]
  · iframe; iexact HC
  iintro ⟨⟨HA0, HF0, HV0⟩, HO⟩
  ihave HV0 := (Entails.of_eq (show semVal ((c : Thread nD τ), SemLoc.dma (ownS 0)) 0 = sOwn (F := F) 0 c from rfl)) $$ HV0
  iapply (wait_here 42 (D := D) (κ := κ) (ks := ks) (s := ownS 1) (N := (oF c 1).view.dmaCredit) (credit_own _ 1)) $$ [HG1 HO]
  · iframe; iexact HC
  iintro ⟨⟨HA1, HF1, HV1⟩, HO⟩
  ihave HV1 := (Entails.of_eq (show semVal ((c : Thread nD τ), SemLoc.dma (ownS 1)) 0 = sOwn (F := F) 1 c from rfl)) $$ HV1
  ihave RD10 := (slot_any true (sl 10) 2 rfl _) $$ RD10
  ihave RD11 := (slot_any true (sl 11) 3 rfl _) $$ RD11
  ihave LD10 := (slot_any false (sl 10) 2 rfl _) $$ LD10
  ihave LD11 := (slot_any false (sl 11) 3 rfl _) $$ LD11
  iapply Hk
  unfold RingZ Done MidZ
  iframe

end Cert.RingProof
-- ==== Proof.Body.lean ====
/-
# 01_k — the whole body on one device
-/
module

public import proofs.«01_k».proof.Proof.Seg0
public import proofs.«01_k».proof.Proof.SegA
public import proofs.«01_k».proof.Proof.SegB
public import proofs.«01_k».proof.Proof.SegC
public import proofs.«01_k».proof.Proof.SegD
public import proofs.«01_k».proof.Proof.SegE
public import proofs.«01_k».proof.Proof.SegF

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

/-- The pieces of the result for the other devices' blocks, to be written -/
def PiecesT (c : Dev nD) : sProp 𝕄 :=
  iprop((Todo true 0 c ∗ Todo true 1 c ∗ Todo true 2 c) ∗ (Todo false 0 c ∗ Todo false 1 c ∗ Todo false 2 c))
/-- and written. -/
def PiecesD (c : Dev nD) : sProp 𝕄 :=
  iprop((Done D true 0 c ∗ Done D true 1 c ∗ Done D true 2 c) ∗ (Done D false 0 c ∗ Done D false 1 c ∗ Done D false 2 c))

/-- What a device starts the body with -/
def Before (c : Dev nD) : sProp 𝕄 :=
  iprop(Greet true c ∗ Greet false c ∗ (cred (tallyAt (barC c) 1 2) ∗ atPos ER (barC c) 0 ∅ 0)
    ∗ Ring0 D true c ∗ Ring0 D false c ∗ MidC D c ∗ PiecesT c)
/-- and ends it with. -/
def After (c : Dev nD) : sProp 𝕄 :=
  iprop(atPos ER (barC c) 1 ∅ 0 ∗ RingZ D true c ∗ RingZ D false c ∗ MidZ D c ∗ PiecesD D c)

theorem done {Q : PUnit → sProp 𝕄} : (|={Set.univ}=> Q ⟨⟩) ⊢ WP c (.ret ⟨⟩) Q := by
  unfold WP; rw [wp_ret]

theorem body {Q : PUnit → sProp 𝕄} :
    iprop(ctx D κ ks ∗ Before D c ∗ owesN c 0) ⊢ iprop((iprop(After D c ∗ owesN c 42) -∗ |={Set.univ}=> Q ⟨⟩) -∗ WP c (ap cc0_body) Q) := by
  rw [body_eq]
  unfold Before After
  iintro ⟨#HC, ⟨HGt, HGf, HB, HR, HL, HM, HP⟩, HO⟩ Hk
  iapply (seg0 D (κ := κ) (ks := ks)) $$ [HGt HGf HB HR HL HO]
  · iframe; iexact HC
  iintro %v2 %v4 %v7 %v18 %v21 %v24 %v30 %v33 %v36 %v135 ⟨HB, HR, HL, HO⟩
  iapply (segA D (κ := κ) (ks := ks)) $$ [HR HL HO]
  · iframe; iexact HC
  iintro %v349 ⟨HR, HL, HO⟩
  iapply (segB D (κ := κ) (ks := ks)) $$ [HR HL HO]
  · iframe; iexact HC
  iintro ⟨HR, HL, HO⟩
  iapply (segC D (κ := κ) (ks := ks)) $$ [HR HL HO HM]
  · iframe; iexact HC
  iintro ⟨HR, HL, HO, HM⟩
  iapply (segD D (κ := κ) (ks := ks)) $$ [HR HL HO HM]
  · iframe; iexact HC
  iintro ⟨HR, HL, HO, HM⟩
  unfold PiecesT PiecesD
  icases HP with ⟨⟨HR0, HR12⟩, ⟨HL0, HL12⟩⟩
  iapply (segE D (κ := κ) (ks := ks)) $$ [HR HL HO HR0 HL0]
  · iframe; iexact HC
  iintro %v904 ⟨HR, HL, HO, HR0, HL0⟩
  iapply (segF D (κ := κ) (ks := ks)) $$ [HR HL HO HM HR12 HL12]
  · iframe; iexact HC
  iintro ⟨HR, HL, HO, HM, HR12, HL12⟩
  iapply done
  iapply Hk
  iframe

end Cert.RingProof
-- ==== Proof.Fund.lean ====
/-
# 01_k — what the launch deals out

The protocol's cells, tokens and slot counts, made once for all devices and dealt to the devices that use them.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

/-! ## Sums over small sets -/

theorem fin_ico (n : ℕ) (Ψ : ℕ → sProp 𝕄) : bigSep (Finset.univ : Finset (Fin n)) (fun i => Ψ i.val) = bigSep (Finset.Ico 0 n) Ψ := by
  have h : (Finset.Ico 0 n) = (Finset.univ : Finset (Fin n)).map Fin.valEmbedding := by
    ext x; simp only [Finset.mem_Ico, Finset.mem_map, Finset.mem_univ, true_and, Fin.valEmbedding_apply]
    exact ⟨fun h => ⟨⟨x, h.2⟩, rfl⟩, fun ⟨i, hi⟩ => hi ▸ ⟨Nat.zero_le _, i.isLt⟩⟩
  rw [h, bigSep_map]; rfl

theorem big_bool (Φ : Bool → sProp 𝕄) : bigSep Finset.univ Φ = iprop(Φ true ∗ Φ false) := by
  rw [show (Finset.univ : Finset Bool) = {true, false} from by decide, big_insert (by decide), bigSep_singleton]

theorem big_unit (Φ : Unit → sProp 𝕄) : bigSep Finset.univ Φ = Φ () := by
  rw [show (Finset.univ : Finset Unit) = {()} from by decide, bigSep_singleton]

theorem big_mono {I : Type} [DecidableEq I] {S : Finset I} {Φ Ψ : I → sProp 𝕄} (h : ∀ i, Φ i ⊢ Ψ i) : bigSep S Φ ⊢ bigSep S Ψ := bigSep_mono fun i _ => h i
theorem big_pair {I : Type} [DecidableEq I] {S : Finset I} {Φ Ψ : I → sProp 𝕄} : iprop(bigSep S Φ ∗ bigSep S Ψ) ⊢ bigSep S fun i => iprop(Φ i ∗ Ψ i) :=
  Entails.of_eq (bigSep_sep' S Φ Ψ).symm

theorem big_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

/-! ## The cells -/

/-- The protocol's semaphores of one launch of the kernel: send, receive, credits. -/
abbrev Cx : Type := (Bool × Fin 4) ⊕ (Bool × Fin 4) ⊕ Bool
/-- The semaphores for a device's own copies: the fetches of the two rings, the two halves of the own block. -/
abbrev Ox : Type := Bool ⊕ Fin 2

def csem : Cx → SemLoc sig
  | .inl x => .dma (sndS x.1 x.2)
  | .inr (.inl x) => .dma (rcvS x.1 x.2)
  | .inr (.inr b) => .reg (crdS b)
def xsem : Ox → SemLoc sig
  | .inl b => .dma (stgS b)
  | .inr s => .dma (ownS s)
/-- The kernel's own semaphores. -/
def osem : Cx ⊕ Ox → SemLoc sig
  | .inl x => csem x
  | .inr x => xsem x

theorem csem_inj : Function.Injective csem := by decide +kernel
theorem csem_bar (x : Cx) : csem x ≠ .reg barS := by revert x; decide +kernel

abbrev cx (c : Dev nD) (x : Cx) : GSem nD τ sig := ((c : Thread nD τ), csem x)

def barEmb : Dev nD ↪ GSem nD τ sig := ⟨barC, fun _ _ h => congrArg (fun g : GSem nD τ sig => g.1.1) h⟩
def cxEmb : Dev nD × Cx ↪ GSem nD τ sig :=
  ⟨fun x => cx x.1 x.2, fun _ _ h => Prod.ext (congrArg (fun g : GSem nD τ sig => g.1.1) h) (csem_inj (congrArg Prod.snd h))⟩

/-- The barriers are there from the start; the others sleep until the kernel starts. -/
def bars : Finset (GSem nD τ sig) := Finset.univ.map barEmb
def sleepers : Finset (GSem nD τ sig) := Finset.univ.map cxEmb

theorem disjoint_cells : Disjoint bars sleepers := by
  rw [Finset.disjoint_left]
  intro g h₁ h₂
  obtain ⟨c, -, rfl⟩ := Finset.mem_map.mp h₁
  obtain ⟨x, -, h⟩ := Finset.mem_map.mp h₂
  exact csem_bar x.2 (congrArg Prod.snd h)

theorem pS_cases (i : Fin 19) : pS i = .reg barS ∨ ∃ x, csem x = pS i := by revert i; decide +kernel
theorem pS_csem (x : Cx) : ∃ i, pS i = csem x := by revert x; decide +kernel

theorem cells_eq : bars ∪ sleepers = cells := by
  ext g
  constructor
  · intro h
    rcases Finset.mem_union.mp h with h | h
    · obtain ⟨c, -, rfl⟩ := Finset.mem_map.mp h
      exact bar_mem c
    · obtain ⟨x, -, rfl⟩ := Finset.mem_map.mp h
      exact mem_cells x.1 _ (pS_csem x.2)
  · intro h
    obtain ⟨⟨c, i⟩, -, rfl⟩ := Finset.mem_image.mp h
    rcases pS_cases i with h | ⟨x, h⟩
    · exact Finset.mem_union_left _ (Finset.mem_map.mpr ⟨c, Finset.mem_univ _, by show barC c = pC (c, i); unfold pC; rw [h]⟩)
    · exact Finset.mem_union_right _ (Finset.mem_map.mpr ⟨(c, x), Finset.mem_univ _, by show cx c x = pC (c, i); unfold pC; rw [← h]⟩)

/-! ## The tokens, by the device that pays with them -/

abbrev Tx : Type := Bool × (Unit ⊕ Fin 12 ⊕ Fin 12 ⊕ Fin 8)

/-- Whom a payment goes to, -/
def tkD (x : Tx) (c : Dev nD) : Dev nD := match x with
  | (b, .inl _) => tgt b c
  | (_, .inr (.inl _)) => c
  | (b, .inr (.inr (.inl _))) => tgt b c
  | (b, .inr (.inr (.inr _))) => tgt (!b) c
/-- and which duty of which semaphore it meets. -/
def tkS (x : Tx) : SemLoc sig × ℕ × ℕ := match x with
  | (b, .inl _) => (.reg barS, 0, cond b 1 0)
  | (b, .inr (.inl i)) => (.dma (sndS b (sl i.val)), i.val / 4, 0)
  | (b, .inr (.inr (.inl i))) => (.dma (rcvS b (sl i.val)), i.val / 4, 0)
  | (b, .inr (.inr (.inr i))) => (.reg (crdS b), 0, i.val)

theorem tkS_inj : Function.Injective tkS := by decide +kernel
theorem tgt_inj (b : Bool) : Function.Injective (tgt b) := (ring b).injective
theorem tkD_inj (x : Tx) : Function.Injective (tkD x) := by
  obtain ⟨b, _ | _ | _ | _⟩ := x
  · exact tgt_inj b
  · exact fun _ _ h => h
  · exact tgt_inj b
  · exact tgt_inj (!b)

def tkEmb : Dev nD × Tx ↪ GSem nD τ sig × ℕ × ℕ :=
  ⟨fun y => (((tkD y.2 y.1 : Thread nD τ), (tkS y.2).1), (tkS y.2).2), fun y z h => by
    have h1 : y.2 = z.2 := tkS_inj (Prod.ext (congrArg (fun t : GSem nD τ sig × ℕ × ℕ => t.1.2) h) (congrArg (fun t : GSem nD τ sig × ℕ × ℕ => t.2) h))
    have h2 : tkD y.2 y.1 = tkD z.2 z.1 := congrArg (fun t : GSem nD τ sig × ℕ × ℕ => t.1.1.1) h
    rw [h1] at h2
    exact Prod.ext (tkD_inj z.2 h2) h1⟩
def toks : Finset (GSem nD τ sig × ℕ × ℕ) := Finset.univ.map tkEmb

/-- A ring's duty tokens on one device. -/
def Pays (b : Bool) (c : Dev nD) : sProp 𝕄 :=
  iprop(dutyTok ER (barC (tgt b c)) 0 (cond b 1 0) ∗ Start b c 0
    ∗ (bigSep (Finset.Ico 0 8) fun i => dutyTok ER (crdC b (tgt (!b) c)) 0 i))

theorem toks_eq : bigSep toks (fun x => (dutyTok ER x.1 x.2.1 x.2.2 : sProp 𝕄)) ⊢ bigSep Finset.univ fun c : Dev nD => iprop(Pays true c ∗ Pays false c) := by
  have hb (b : Bool) (c : Dev nD) : bigSep Finset.univ (fun e => (dutyTok ER (tkEmb (c, (b, e))).1 (tkEmb (c, (b, e))).2.1 (tkEmb (c, (b, e))).2.2 : sProp 𝕄)) ⊢ Pays b c := by
    rw [big_sum, big_sum, big_sum, big_unit]
    unfold Pays Start
    rw [← fin_ico 12, ← fin_ico 8, bigSep_sep']
    iintro ⟨H1, H2, H3, H4⟩
    isplitl [H1]; · iexact H1
    isplitl [H2 H3]; · isplitl [H2]; · iexact H2
                       iexact H3
    iexact H4
  unfold toks
  rw [bigSep_map, bigSep_univ_prod]
  refine big_mono fun c => ?_
  rw [bigSep_univ_prod, big_bool]
  exact BIClass.sep_mono (hb true c) (hb false c)

/-! ## The slots' counts -/

def wrEmb : Dev nD × Bool × Fin 8 ↪ Key × ℕ :=
  ⟨fun x => (key x.2.1 (sl x.2.2.val) (tgt x.2.1 x.1), x.2.2.val / 4), by decide +kernel⟩

theorem writes_eq : (Finset.univ : Finset Key) ×ˢ Finset.range 2 = Finset.univ.map wrEmb := by decide +kernel

/-- A ring's rights on the slots: to give its own slots back, to write the slots downstream. -/
def Slots (b : Bool) (c : Dev nD) : sProp 𝕄 :=
  iprop((bigSep (Finset.Ico 0 4) fun i => readerAt ES (key b (sl i) c) (i / 4))
    ∗ (bigSep (Finset.Ico 0 8) fun i => writeTok ES (key b (sl i) (tgt b c)) (i / 4 + 1)))

theorem slots_eq : iprop((bigSep Finset.univ fun k : Key => readerAt ES k 0) ∗ (bigSep ((Finset.univ : Finset Key) ×ˢ Finset.range 2) fun x => writeTok ES x.1 (x.2 + 1)))
    ⊢ (bigSep Finset.univ fun c : Dev nD => iprop(Slots true c ∗ Slots false c) : sProp 𝕄) := by
  have hr (b : Bool) (c : Dev nD) : bigSep Finset.univ (fun s : Fin 4 => (readerAt ES (c, b, s) 0 : sProp 𝕄))
      ⊢ (bigSep (Finset.Ico 0 4) fun i => readerAt ES (key b (sl i) c) (i / 4)) := by
    rw [← fin_ico 4]
    refine big_mono fun s => Entails.of_eq ?_
    have h1 : sl s.val = s := Fin.ext (Nat.mod_eq_of_lt s.isLt)
    have h2 : s.val / 4 = 0 := Nat.div_eq_of_lt s.isLt
    rw [h1, h2]
  have hw (b : Bool) (c : Dev nD) : bigSep Finset.univ (fun i : Fin 8 => (writeTok ES (wrEmb (c, b, i)).1 ((wrEmb (c, b, i)).2 + 1) : sProp 𝕄))
      ⊢ (bigSep (Finset.Ico 0 8) fun i => writeTok ES (key b (sl i) (tgt b c)) (i / 4 + 1)) := by
    rw [← fin_ico 8]; exact Entails.rfl
  rw [writes_eq, bigSep_map, bigSep_univ_prod, bigSep_univ_prod]
  refine BIBase.Entails.trans big_pair (big_mono fun c => ?_)
  rw [bigSep_univ_prod, bigSep_univ_prod, big_bool, big_bool]
  unfold Slots
  iintro ⟨⟨R1, R2⟩, ⟨W1, W2⟩⟩
  isplitl [R1 W1]
  · isplitl [R1]; · iapply (hr true c) $$ R1
    iapply (hw true c) $$ W1
  · isplitl [R2]; · iapply (hr false c) $$ R2
    iapply (hw false c) $$ W2

end Cert.RingProof
-- ==== Proof.Deal.lean ====
/-
# 01_k — the launch credit, and the launch

What a device's neighbours owe it at the start is what it waits with. With it, everything is dealt.
-/
module

public import proofs.«01_k».proof.Proof.Fund

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.TalkSites (Pay tallyL)
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable {D : Data F} {κ : GSem nD τ sig → ℕ} {ks : Key → ℕ}

/-! ## Credits -/

/-- What a device is paid. -/
def Ev.inc (c : Dev nD) : Ev → Pay nD τ sig
  | .bar b => (barC c, 1, 1)
  | .msg b j => (rcvC b (sl j) c, lvM j, N)
  | .crd b k => (crdC b c, lvK k, 1)

/-- What all devices owe first. -/
abbrev O₀ (c : Dev nD) : CellTallies nD τ sig ℕ := payL evs c
def incL (l : List Ev) (c : Dev nD) : CellTallies nD τ sig ℕ := tallyL (l.map (Ev.inc c))

theorem inc_sum (e : Ev) : (∑ c : Dev nD, (e.pay c).tally) = ∑ c : Dev nD, (e.inc c).tally := by
  cases e with
  | bar b => exact Equiv.sum_comp (ring b) fun c => (Ev.inc c (.bar b)).tally
  | msg b j => exact Equiv.sum_comp (ring b) fun c => (Ev.inc c (.msg b j)).tally
  | crd b k => exact Equiv.sum_comp (ring (!b)) fun c => (Ev.inc c (.crd b k)).tally

theorem incL_sum (l : List Ev) : (∑ c : Dev nD, payL l c) = ∑ c : Dev nD, incL l c := by
  induction l with
  | nil => rfl
  | cons e l ih =>
    have h1 (c : Dev nD) : payL (e :: l) c = (e.pay c).tally + payL l c := rfl
    have h2 (c : Dev nD) : incL (e :: l) c = (e.inc c).tally + incL l c := rfl
    simp only [h1, h2, Finset.sum_add_distrib, inc_sum, ih]

theorem inc_core (c : Dev nD) (e : Ev) : (e.inc c).1.1 = (c : Thread nD τ) := by cases e <;> rfl

theorem launch_cred (c : Dev nD) : (Pipeline.launchCred O₀ c : sProp 𝕄) = cred (incL evs c) :=
  Pipeline.launchCred_of_sum O₀ (incL evs) (incL_sum evs)
    (fun d g hg => by
      obtain ⟨i, hi⟩ := DFunLike.ne_iff.mp hg
      obtain ⟨x, hx, rfl, -⟩ := TalkSites.tallyL_pos (Nat.pos_of_ne_zero hi)
      obtain ⟨e, -, rfl⟩ := List.mem_map.mp hx
      exact inc_core d e) c

theorem tallyL_perm {l l' : List (Pay nD τ sig)} (h : l.Perm l') : tallyL l = tallyL l' := by
  induction h with
  | nil => rfl
  | cons x _ ih => rw [tallyL, tallyL, ih]
  | swap x y l => simp only [tallyL]; exact add_left_comm _ _ _
  | trans _ _ h1 h2 => exact h1.trans h2

theorem cred_range (f : ℕ → Pay nD τ sig) (n : ℕ) :
    (cred (tallyL ((List.range n).map f)) : sProp 𝕄) ⊢ bigSep (Finset.Ico 0 n) fun i => cred (f i).tally := by
  induction n with
  | zero => exact Entails.of_eq (cred_zero.trans (bigSep_empty (Φ := fun i : ℕ => (cred (f i).tally : sProp 𝕄))).symm)
  | succ n ih =>
    rw [List.range_succ, List.map_append, TalkSites.tallyL_append, addTop (Nat.zero_le n)]
    iintro H
    ihave H := (cred_add _ _).1 $$ H
    icases H with ⟨H1, H2⟩
    isplitl [H2]
    · ihave H2 := (Entails.of_eq (congrArg cred (show tallyL ([n].map f) = (f n).tally from add_zero _))) $$ H2
      iexact H2
    iapply ih $$ H1

/-- A ring's credits on one device. -/
def Creds (b : Bool) (c : Dev nD) : sProp 𝕄 :=
  iprop((bigSep (Finset.Ico 0 12) fun i => cred (tallyAt (rcvC b (sl i) c) (lvM i) N))
    ∗ (bigSep (Finset.Ico 0 8) fun i => cred (tallyAt (crdC b c) (lvK i) 1)))

def evsR (b : Bool) : List Ev := (List.range 12).map (.msg b) ++ (List.range 8).map (.crd b)

theorem evs_perm : evs.Perm ([.bar true, .bar false] ++ (evsR true ++ evsR false)) := by decide +kernel

theorem creds_ring (b : Bool) (c : Dev nD) : (cred (incL (evsR b) c) : sProp 𝕄) ⊢ Creds b c := by
  unfold incL evsR Creds
  rw [List.map_append, TalkSites.tallyL_append, List.map_map, List.map_map]
  iintro H
  ihave H := (cred_add _ _).1 $$ H
  icases H with ⟨H1, H2⟩
  isplitl [H1]; · iapply (cred_range (Ev.inc c ∘ Ev.msg b) 12) $$ H1
  iapply (cred_range (Ev.inc c ∘ Ev.crd b) 8) $$ H2

theorem creds (c : Dev nD) : (Pipeline.launchCred O₀ c : sProp 𝕄) ⊢ iprop(cred (tallyAt (barC c) 1 2) ∗ Creds true c ∗ Creds false c) := by
  rw [launch_cred]
  have h : incL evs c = tallyAt (barC c) 1 2 + (incL (evsR true) c + incL (evsR false) c) := by
    unfold incL
    rw [tallyL_perm (evs_perm.map (Ev.inc c)), List.map_append, List.map_append, TalkSites.tallyL_append, TalkSites.tallyL_append]
    congr 1
    show tallyAt (barC c) 1 1 + (tallyAt (barC c) 1 1 + 0) = _
    rw [add_zero]; exact tallyAt_add _ _ _ _
  rw [h]
  iintro H
  ihave H := (cred_add _ _).1 $$ H
  icases H with ⟨H1, H2⟩
  isplitl [H1]; · iexact H1
  ihave H := (cred_add _ _).1 $$ H2
  icases H with ⟨H1, H2⟩
  isplitl [H1]; · iapply (creds_ring true c) $$ H1
  iapply (creds_ring false c) $$ H2

/-! ## The launch -/

variable (D)

/-- What everyone knows after the launch: the invariants, and that every barrier is there. -/
def recs (κ : GSem nD τ sig → ℕ) (ks : Key → ℕ) : sProp 𝕄 := iprop(ctx D κ ks ∗ bigSep bars fun g => reached ER g 0)
instance recs_persistent (κ : GSem nD τ sig → ℕ) (ks : Key → ℕ) : Persistent (recs D κ ks) := by unfold recs; infer_instance

/-- What one device gets of the protocol. -/
def Lin (c : Dev nD) : sProp 𝕄 :=
  iprop(atPos ER (barC c) 0 ∅ 0 ∗ (bigSep Finset.univ fun x : Cx => openTok ER (cx c x)) ∗ (Pays true c ∗ Pays false c) ∗ (Slots true c ∗ Slots false c))

def launchR : UP := launchOf bars sleepers toks
def launchS : USlots Key := initSlots Finset.univ 2

theorem sleep_unit (g : GSem nD τ sig) (_ : g ∈ sleepers) : ¬(sch D).unitless g := fun h => h

theorem fund : iprop((bigSep Finset.univ fun c : Dev nD => semVal (barC c) 0) ∗ BI.own (ER launchR) ∗ BI.own (ES launchS) ∗ levAts (L 21) lv)
    ⊢ (|={Set.univ}=> ∃ κ ks, recs D κ ks ∗ bigSep Finset.univ fun c : Dev nD => Lin c : sProp 𝕄) := by
  have hv : bigSep Finset.univ (fun c : Dev nD => (semVal (barC c) 0 : sProp 𝕄)) ⊢ bigSep bars (fun g => (semVal g 0 : sProp 𝕄)) :=
    Entails.of_eq (bigSep_map (s := Finset.univ) barEmb (Φ := fun g : GSem nD τ sig => (semVal g 0 : sProp 𝕄))).symm
  have hat : bigSep bars (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep sleepers (fun g => (openTok ER g : sProp 𝕄)) ⊢ bigSep Finset.univ (fun c : Dev nD => bigSep Finset.univ fun x : Cx => openTok ER (cx c x)) :=
    Entails.of_eq (by unfold sleepers; rw [bigSep_map, bigSep_univ_prod]; rfl)
  unfold launchR launchS
  iintro ⟨Hv, HR, HS, #HL⟩
  imod (Rounds.fund_launch ER (sch D) disjoint_cells (sleep_unit D) toks) $$ [Hv HR] with ⟨%κ, -, #Hinv, #Hr, Hat, Hopen, Htok⟩
  · isplitl [Hv]; · iapply hv $$ Hv
    iexact HR
  imod (slots_init ES Finset.univ 2 fun k : Key => slotA (F := F) k.2.1 k.2.2 k.1) $$ HS with ⟨%ks, -, #Hsl, Hrd, Hwr⟩
  imodintro
  iexists κ, ks
  isplitr
  · unfold recs ctx
    rw [← cells_eq]
    isplitr
    · isplitr; · iexact Hinv
      isplitr; · iexact Hsl
      iexact HL
    iexact Hr
  unfold Lin
  iapply big_pair
  isplitl [Hat]; · iapply hat $$ Hat
  iapply big_pair
  isplitl [Hopen]; · iapply hop $$ Hopen
  iapply big_pair
  isplitl [Htok]; · iapply toks_eq $$ Htok
  iapply slots_eq
  isplitl [Hrd]; · iexact Hrd
  iexact Hwr

end Cert.RingProof
-- ==== Proof.Enter.lean ====
/-
# 01_k — the kernel starts

The sleeping cells are opened with the counters the kernel starts with, and a device holds what its body begins with.
-/
module

public import proofs.«01_k».proof.Proof.Deal

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

/-- A protocol semaphore of the device, opened. -/
abbrev opened (c : Dev nD) (x : Cx) : sProp 𝕄 := iprop(atPos ER (cx c x) 0 ∅ 0 ∗ reached ER (cx c x) 0)

/-- The protocol's share of one device, awake. -/
def Awake (c : Dev nD) : sProp 𝕄 :=
  iprop(atPos ER (barC c) 0 ∅ 0 ∗ (bigSep Finset.univ fun x : Cx => opened c x) ∗ (Pays true c ∗ Pays false c) ∗ (Slots true c ∗ Slots false c))

theorem cx_mem (c : Dev nD) (x : Cx) : cx c x ∈ cells := mem_cells c _ (pS_csem x)

theorem open_all (c : Dev nD) : iprop(ctx D κ ks ∗ ((bigSep Finset.univ fun x : Cx => openTok ER (cx c x)) ∗ bigSep Finset.univ fun x : Cx => semVal (cx c x) 0))
    ⊢ (|={Set.univ}=> bigSep Finset.univ fun x : Cx => opened c x : sProp 𝕄) := by
  have h1 (x : Cx) (_ : x ∈ Finset.univ) : iprop(ctx D κ ks ∗ (openTok ER (cx c x) ∗ semVal (cx c x) 0)) ⊢ (|={Set.univ}=> opened c x : sProp 𝕄) := by
    iintro ⟨#HC, HT, HV⟩
    ihave HI := (ctx_inv D (cx_mem c x)) $$ HC
    imod (Rounds.cell_open ER (sch D) (g := cx c x) (Set.mem_univ (κ (cx c x)))) $$ [HI HT HV] with H
    · isplitl [HI]; · iexact HI
      isplitl [HT] <;> iassumption
    imodintro; iexact H
  iintro ⟨#HC, HT, HV⟩
  iapply (BI.bigSep_fupd (Fr := frame) Finset.univ _)
  iapply (bigSep_with_persistent (R := ctx D κ ks) h1)
  isplitr; · iexact HC
  iapply big_pair
  isplitl [HT] <;> iassumption

theorem wake (c : Dev nD) : iprop(recs D κ ks ∗ Lin c ∗ bigSep Finset.univ fun x : Cx => semVal (cx c x) 0)
    ⊢ (|={Set.univ}=> Awake c : sProp 𝕄) := by
  unfold recs Lin Awake
  iintro ⟨⟨#HC, -⟩, ⟨HB, HO, HP, HS⟩, HV⟩
  imod (open_all D c) $$ [HO HV] with H
  · isplitr; · iexact HC
    isplitl [HO] <;> iassumption
  imodintro
  isplitl [HB]; · iexact HB
  isplitl [H]; · iexact H
  isplitl [HP] <;> iassumption

/-! ## The state at the start -/

theorem big_four (Φ : Fin 4 → sProp 𝕄) : bigSep Finset.univ Φ = iprop(Φ 0 ∗ Φ 1 ∗ Φ 2 ∗ Φ 3) := by
  rw [show (Finset.univ : Finset (Fin 4)) = {0, 1, 2, 3} from by decide, big_insert (by decide), big_insert (by decide), big_insert (by decide), bigSep_singleton]

/-- A ring's own semaphores on a device, as opened. -/
def Cells (b : Bool) (c : Dev nD) : sProp 𝕄 :=
  iprop((bigSep Finset.univ fun s : Fin 4 => iprop(atPos ER (sndC b s c) 0 ∅ 0 ∗ reached ER (sndC b s c) 0))
    ∗ (bigSep Finset.univ fun s : Fin 4 => iprop(atPos ER (rcvC b s c) 0 ∅ 0 ∗ reached ER (rcvC b s c) 0))
    ∗ atPos ER (crdC b c) 0 ∅ 0 ∗ reached ER (crdC b c) 0)

theorem cells_rings (c : Dev nD) : (bigSep Finset.univ fun x : Cx => opened c x) ⊢ (iprop(Cells true c ∗ Cells false c) : sProp 𝕄) := by
  rw [big_sum, big_sum, bigSep_univ_prod, bigSep_univ_prod, big_bool, big_bool, big_bool]
  unfold Cells
  iintro ⟨⟨S1, S2⟩, ⟨R1, R2⟩, ⟨C1, C2⟩⟩
  isplitl [S1 R1 C1]
  · isplitl [S1]; · iexact S1
    isplitl [R1]; · iexact R1
    iexact C1
  · isplitl [S2]; · iexact S2
    isplitl [R2]; · iexact R2
    iexact C2

/-- The buffers a ring works with. -/
def Room (b : Bool) (c : Dev nD) : sProp 𝕄 :=
  iprop((slotA b 0 c ∗ slotA b 1 c ∗ slotA b 2 c ∗ slotA b 3 c) ∗ (vA b 0 c ∗ vA b 1 c) ∗ (∃ Y, idle D b c Y))

/-- What a ring tells its neighbour at the start. -/
def Tells (b : Bool) (c : Dev nD) : sProp 𝕄 :=
  iprop((bigSep Finset.univ fun s : Fin 4 => iprop(slotA b s c ∗ reached ER (rcvC b s c) 0)) ∗ reached ER (crdC b c) 0)

theorem ring_start (b : Bool) (c : Dev nD) : iprop(Cells b c ∗ Pays b c ∗ Slots b c ∗ Creds b c ∗ Room D b c)
    ⊢ (iprop(Ring0 D b c ∗ Tells b c ∗ reached ER (crdC b c) 0 ∗ dutyTok ER (barC (tgt b c)) 0 (cond b 1 0)) : sProp 𝕄) := by
  unfold Cells Pays Slots Creds Room Ring0 Tells Recv Take SndI
  rw [big_four, big_four, big_four, Finset.Ico_self, bigSep_empty]
  have h4 (Φ : ℕ → sProp 𝕄) : bigSep (Finset.Ico 0 (0 + 4)) Φ = iprop(Φ 0 ∗ Φ 1 ∗ Φ 2 ∗ Φ 3) := by
    rw [← fin_ico 4, big_four]; rfl
  rw [h4 fun i => atPos ER (rcvC b (sl i) c) (i / 4) ∅ 0]
  iintro ⟨⟨⟨⟨S0, #s0⟩, ⟨S1, #s1⟩, ⟨S2, #s2⟩, ⟨S3, #s3⟩⟩, ⟨⟨R0, #r0⟩, ⟨R1, #r1⟩, ⟨R2, #r2⟩, ⟨R3, #r3⟩⟩, K, #k⟩,
    ⟨T1, T2, T3⟩, ⟨W1, W2⟩, ⟨C1, C2⟩, ⟨⟨A0, A1, A2, A3⟩, ⟨V0, V1⟩, I⟩⟩
  isplitl [S0 S1 S2 S3 R0 R1 R2 R3 K T2 T3 W1 W2 C1 C2 V0 V1 I]
  · isplitl [T2]; · iexact T2
    isplitl [C1 R0 R1 R2 R3]
    · isplitl [C1]; · iexact C1
      isplitl
      · isplitl [R0]; · iexact R0
        isplitl [R1]; · iexact R1
        isplitl [R2]; · iexact R2
        iexact R3
      iempintro
    isplitl [T3 W1]; · isplitl [T3] <;> iassumption
    isplitl [K C2 W2]
    · isplitl [K]
      · unfold taken
        iexists ∅, 0
        isplitr; · ipureintro; exact ⟨Finset.empty_subset _, Finset.empty_subset _, Nat.zero_le _⟩
        isplitl [K]; · iexact K
        iapply facts_zero; iempintro
      iapply big_pair
      isplitl [C2] <;> iassumption
    isplitl [S0 S1 S2 S3]
    · isplitl [S0]; · isplitl [S0]; · iexact S0
                      iexact s0
      isplitl [S1]; · isplitl [S1]; · iexact S1
                      iexact s1
      isplitl [S2]; · isplitl [S2]; · iexact S2
                      iexact s2
      isplitl [S3]; · iexact S3
      iexact s3
    isplitl [V0]; · iexact V0
    isplitl [V1]; · iexact V1
    iexact I
  isplitl [A0 A1 A2 A3]
  · isplitl
    · isplitl [A0]; · isplitl [A0]; · iexact A0
                      iexact r0
      isplitl [A1]; · isplitl [A1]; · iexact A1
                      iexact r1
      isplitl [A2]; · isplitl [A2]; · iexact A2
                      iexact r2
      isplitl [A3]; · iexact A3
      iexact r3
    iexact k
  isplitr; · iexact k
  iexact T1

/-- The buffers of a device at the start: those of both rings, the accumulator, the result. -/
def Rooms (c : Dev nD) : sProp 𝕄 := iprop(Room D true c ∗ Room D false c ∗ MidC D c ∗ PiecesT c)

theorem bars_mem (c : Dev nD) : barC c ∈ bars := Finset.mem_map_of_mem barEmb (Finset.mem_univ c)

theorem enter (c : Dev nD) : iprop(recs D κ ks ∗ Awake c ∗ (cred (tallyAt (barC c) 1 2) ∗ Creds true c ∗ Creds false c) ∗ Rooms D c)
    ⊢ (iprop(ctx D κ ks ∗ Before D c) : sProp 𝕄) := by
  unfold recs Awake Rooms Before Greet
  iintro ⟨⟨#HC, #HB⟩, ⟨A, Cs, ⟨P1, P2⟩, ⟨S1, S2⟩⟩, ⟨Cb, C1, C2⟩, ⟨R1, R2, M, T⟩⟩
  ihave Cs := (cells_rings c) $$ Cs
  icases Cs with ⟨Q1, Q2⟩
  ihave H1 := (ring_start D true c) $$ [Q1 P1 S1 C1 R1]
  · isplitl [Q1]; · iexact Q1
    isplitl [P1]; · iexact P1
    isplitl [S1]; · iexact S1
    isplitl [C1] <;> iassumption
  ihave H2 := (ring_start D false c) $$ [Q2 P2 S2 C2 R2]
  · isplitl [Q2]; · iexact Q2
    isplitl [P2]; · iexact P2
    isplitl [S2]; · iexact S2
    isplitl [C2] <;> iassumption
  unfold Tells
  icases H1 with ⟨G1, ⟨L1, -⟩, #k1, D1⟩
  icases H2 with ⟨G2, ⟨L2, -⟩, #k2, D2⟩
  isplitr; · iexact HC
  isplitl [D1 L2]
  · isplitl [D1]; · iexact D1
    isplitr; · iapply (pick (Φ := fun g => reached ER g 0) (bars_mem (tgt true c))) $$ HB
    isplitl [L2]; · iexact L2
    iexact k1
  isplitl [D2 L1]
  · isplitl [D2]; · iexact D2
    isplitr; · iapply (pick (Φ := fun g => reached ER g 0) (bars_mem (tgt false c))) $$ HB
    isplitl [L1]; · iexact L1
    iexact k2
  isplitl [Cb A]; · isplitl [Cb] <;> iassumption
  isplitl [G1]; · iexact G1
  isplitl [G2]; · iexact G2
  isplitl [M] <;> iassumption

end Cert.RingProof
-- ==== Proof.Leave.lean ====
/-
# 01_k — the kernel ends

Every cell is closed, its counter at zero.
-/
module

public import proofs.«01_k».proof.Proof.Enter

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

theorem close_cell {g : GSem nD τ sig} (hg : g ∈ cells) {R : ℕ} (hR : ∀ r, R ≤ r → (sch D).duties g r = ∅) :
    iprop(ctx D κ ks ∗ atPos ER g R ∅ 0) ⊢ (|={Set.univ}=> semVal g 0 : sProp 𝕄) := by
  iintro ⟨#HC, HA⟩
  ihave HI := (ctx_inv D hg) $$ HC
  imod (Rounds.cell_close ER (sch D) (Set.mem_univ (κ g)) (fun h => h) hR) $$ [HI HA] with H
  · isplitl [HI] <;> iassumption
  imodintro; iexact H

theorem close_snd (b : Bool) (s : Fin 4) : iprop(ctx D κ ks ∗ atPos ER (sndC b s c) 3 ∅ 0) ⊢ (|={Set.univ}=> semVal (sndC b s c) 0 : sProp 𝕄) :=
  close_cell D (snd_mem b s c) fun r hr => by rw [duties_snd, if_neg (by omega)]
theorem close_rcv (b : Bool) (s : Fin 4) : iprop(ctx D κ ks ∗ atPos ER (rcvC b s c) 3 ∅ 0) ⊢ (|={Set.univ}=> semVal (rcvC b s c) 0 : sProp 𝕄) :=
  close_cell D (rcv_mem b s c) fun r hr => by rw [duties_rcv, if_neg (by omega)]
theorem close_bar : iprop(ctx D κ ks ∗ atPos ER (barC c) 1 ∅ 0) ⊢ (|={Set.univ}=> semVal (barC c) 0 : sProp 𝕄) :=
  close_cell D (bar_mem c) fun r hr => duties_bar' D c r hr

theorem close_crd (b : Bool) : iprop(ctx D κ ks ∗ taken b c 8) ⊢ (|={Set.univ}=> semVal (crdC b c) 0 : sProp 𝕄) := by
  unfold taken
  iintro ⟨#HC, %S, %n, %h, HA, -⟩
  have hS : S = Finset.range 8 := Finset.eq_of_subset_of_card_le h.2.1 (by rw [Finset.card_range]; exact h.2.2)
  subst hS
  ihave HI := (ctx_inv D (crd_mem b c)) $$ HC
  imod (Rounds.fupd_skip ER (sch D) (T := Finset.range 8) (R := 0) (m := 8) (by rw [duties_crd]) (expect_crd D b c).symm (Set.mem_univ (κ (crdC b c)))) $$ [HI HA] with ⟨HA, -⟩
  · isplitl [HI] <;> iassumption
  iapply (close_cell D (crd_mem b c) (R := 1) fun r hr => duties_crd' D b c r hr)
  isplitr; · iexact HC
  iexact HA

/-- A ring's semaphores at rest. -/
def Zero (b : Bool) (c : Dev nD) : sProp 𝕄 :=
  iprop((bigSep Finset.univ fun s : Fin 4 => semVal (sndC b s c) 0) ∗ (bigSep Finset.univ fun s : Fin 4 => semVal (rcvC b s c) 0) ∗ semVal (crdC b c) 0)

theorem four_close {Φ Ψ : Fin 4 → sProp 𝕄} (h : ∀ s, iprop(ctx D κ ks ∗ Φ s) ⊢ (|={Set.univ}=> Ψ s : sProp 𝕄)) :
    iprop(ctx D κ ks ∗ bigSep Finset.univ Φ) ⊢ (|={Set.univ}=> bigSep Finset.univ Ψ : sProp 𝕄) := by
  iintro H
  iapply (BI.bigSep_fupd (Fr := frame) Finset.univ _)
  iapply (bigSep_with_persistent (R := ctx D κ ks) fun s _ => h s) $$ H

theorem ring_end (b : Bool) : iprop(ctx D κ ks ∗ RingZ D b c) ⊢ (|={Set.univ}=> (Zero b c ∗ Room D b c) : sProp 𝕄) := by
  have h4 (Φ : ℕ → sProp 𝕄) : bigSep (Finset.Ico 12 (12 + 4)) Φ = iprop(Φ 12 ∗ Φ 13 ∗ Φ 14 ∗ Φ 15 ∗ emp) := by
    rw [peel (by omega), peel (by omega), peel (by omega), peel (by omega), Finset.Ico_self, bigSep_empty]; rfl
  unfold RingZ Recv Take SndI Room
  rw [h4 fun i => atPos ER (rcvC b (sl i) c) (i / 4) ∅ 0]
  iintro ⟨#HC, ⟨-, ⟨R0, R1, R2, R3, -⟩, -⟩, -, ⟨K, -⟩, ⟨S0, -⟩, ⟨S1, -⟩, ⟨S2, -⟩, ⟨S3, -⟩, A0, A1, A2, A3, V0, V1, I⟩
  imod (close_crd D b) $$ [K] with K
  · isplitr; · iexact HC
    iexact K
  imod (four_close D (Φ := fun s => atPos ER (sndC b s c) 3 ∅ 0) (close_snd D b)) $$ [S0 S1 S2 S3] with S
  · isplitr; · iexact HC
    rw [big_four]
    isplitl [S0]; · iexact S0
    isplitl [S1]; · iexact S1
    isplitl [S2]; · iexact S2
    iexact S3
  imod (four_close D (Φ := fun s => atPos ER (rcvC b s c) 3 ∅ 0) (close_rcv D b)) $$ [R0 R1 R2 R3] with R
  · isplitr; · iexact HC
    rw [big_four]
    isplitl [R0]; · iexact R0
    isplitl [R1]; · iexact R1
    isplitl [R2]; · iexact R2
    iexact R3
  imodintro
  unfold Zero
  isplitl [K S R]
  · isplitl [S]; · iexact S
    isplitl [R] <;> iassumption
  isplitl [A0 A1 A2 A3]
  · isplitl [A0]; · iexact A0
    isplitl [A1]; · iexact A1
    isplitl [A2] <;> iassumption
  isplitl [V0 V1]; · isplitl [V0] <;> iassumption
  iexact I

theorem zero_all (c : Dev nD) : iprop(Zero true c ∗ Zero false c) ⊢ (bigSep Finset.univ fun x : Cx => semVal (cx c x) 0 : sProp 𝕄) := by
  rw [big_sum, big_sum, bigSep_univ_prod, bigSep_univ_prod, big_bool, big_bool, big_bool]
  unfold Zero
  iintro ⟨⟨S1, R1, C1⟩, ⟨S2, R2, C2⟩⟩
  isplitl [S1 S2]; · isplitl [S1]; · iexact S1
                     iexact S2
  isplitl [R1 R2]; · isplitl [R1]; · iexact R1
                     iexact R2
  isplitl [C1]; · iexact C1
  iexact C2

/-- The device's buffers at the end. -/
def RoomsZ (c : Dev nD) : sProp 𝕄 := iprop(Room D true c ∗ Room D false c ∗ MidZ D c ∗ PiecesD D c)

theorem leave (c : Dev nD) : iprop(ctx D κ ks ∗ After D c)
    ⊢ (|={Set.univ}=> (semVal (barC c) 0 ∗ (bigSep Finset.univ fun x : Cx => semVal (cx c x) 0) ∗ RoomsZ D c) : sProp 𝕄) := by
  unfold After RoomsZ
  iintro ⟨#HC, HB, H1, H2, M, P⟩
  imod (close_bar D) $$ [HB] with HB
  · isplitr; · iexact HC
    iexact HB
  imod (ring_end D true) $$ [H1] with ⟨Z1, R1⟩
  · isplitr; · iexact HC
    iexact H1
  imod (ring_end D false) $$ [H2] with ⟨Z2, R2⟩
  · isplitr; · iexact HC
    iexact H2
  imodintro
  isplitl [HB]; · iexact HB
  isplitl [Z1 Z2]; · iapply (zero_all c); isplitl [Z1] <;> iassumption
  isplitl [R1]; · iexact R1
  isplitl [R2]; · iexact R2
  isplitl [M] <;> iassumption

end Cert.RingProof
-- ==== Proof.Parts.lean ====
/-
# 01_k — buffers and their parts

The kernel's buffers, whole, are the slots, halves and pieces the run works with, and at the end these are
the whole buffers again; the result's pieces make up the result.
-/
module

public import proofs.«01_k».proof.Proof.Leave

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

instance elt_nonempty (e : EltTy) : Nonempty (Elt F e) := by
  cases e <;> first | exact ⟨(Scalar.ofBits _ 0 : F _)⟩ | exact ⟨(0 : BitVec _)⟩ | exact ⟨(0 : Fin _)⟩ | exact ⟨false⟩

/-! ## A buffer cut into parts -/

section Cut

variable {sp : Space} {sh : Shape} {e : EltTy} {m : Memref sig .tc sp sh e} {q : PosShare TreeShare}
variable {T : Type} [Fintype T] [DecidableEq T] {r : T → Rect sh} {hr : ∀ t a, (r t).stride a = 1} {home : sh.Idx → T}

theorem cut_disj (hh : ∀ i t, i ∈ (r t).set ↔ home i = t) (t t' : T) (h : t ≠ t') : Disjoint (r t).set (r t').set := by
  rw [Finset.disjoint_left]
  exact fun i h1 h2 => h (((hh i t).mp h1).symm.trans ((hh i t').mp h2))
theorem cut_cov (hh : ∀ i t, i ∈ (r t).set ↔ home i = t) : (Finset.univ : Finset T).biUnion (fun t => (r t).set) = Finset.univ := by
  ext i
  simp only [Finset.mem_biUnion, Finset.mem_univ, true_and, iff_true]
  exact ⟨home i, (hh i _).mpr rfl⟩

/-- A buffer whose elements each lie in one part is its parts, -/
theorem cut (hh : ∀ i t, i ∈ (r t).set ↔ home i = t) (X : sh.Idx → Elt F e) :
    (owns (c : Thread nD τ) m q X : sProp 𝕄) ⊢ bigSep Finset.univ fun t => iprop(∃ Y, owns (c : Thread nD τ) (m.slice (r t) (hr t)) q Y) :=
  BIBase.Entails.trans (owns_rects (c : Thread nD τ) m q r hr (cut_disj hh) (cut_cov hh) X)
    (big_mono fun t => by iintro H; iexists _; iexact H)

/-- and the parts, each at what `X` has there, are the buffer. -/
theorem uncut (hh : ∀ i t, i ∈ (r t).set ↔ home i = t) (X : sh.Idx → Elt F e) :
    (bigSep Finset.univ fun t => owns (c : Thread nD τ) (m.slice (r t) (hr t)) q fun j => X ((r t).emb j)) ⊢ (owns (c : Thread nD τ) m q X : sProp 𝕄) :=
  owns_of_rects (c : Thread nD τ) m q r hr (cut_disj hh) (cut_cov hh) X

/-- One value of the whole from the values of the parts. -/
theorem glue (hh : ∀ i t, i ∈ (r t).set ↔ home i = t) (Y : (t : T) → (r t).shape.Idx → Elt F e) :
    ∃ X : sh.Idx → Elt F e, ∀ t j, X ((r t).emb j) = Y t j := by
  refine ⟨fun i => Y (home i) (Classical.choose ((r (home i)).exists_idx_of_mem ((hh i _).mpr rfl))), fun t j => ?_⟩
  have h : ∀ i, (r t).emb j = i → Y (home i) (Classical.choose ((r (home i)).exists_idx_of_mem ((hh i _).mpr rfl))) = Y t j := by
    intro i hi
    obtain rfl : home i = t := (hh i t).mp (hi ▸ (r t).idx_mem j)
    have h1 := Classical.choose_spec ((r (home i)).exists_idx_of_mem ((hh i _).mpr rfl))
    exact congrArg _ ((r (home i)).emb.injective (h1.trans hi.symm))
  exact h _ rfl

theorem uncut_any (hh : ∀ i t, i ∈ (r t).set ↔ home i = t) :
    (bigSep Finset.univ fun t => iprop(∃ Y, owns (c : Thread nD τ) (m.slice (r t) (hr t)) q Y)) ⊢ (iprop(∃ X, owns (c : Thread nD τ) m q X) : sProp 𝕄) := by
  refine BIBase.Entails.trans (bigSep_exists_pi Finset.univ fun t Y => owns (c : Thread nD τ) (m.slice (r t) (hr t)) q Y) ?_
  iintro ⟨%Y, H⟩
  obtain ⟨X, hX⟩ := glue hh Y
  iexists X
  iapply (uncut (hr := hr) hh X)
  have h : Y = fun t j => X ((r t).emb j) := funext fun t => funext fun j => (hX t j).symm
  subst h
  iexact H

end Cut

/-! ## Slots and halves -/

theorem slot_home (i : S4x512x2048.Idx) (t : Fin 4) : i ∈ (cR t).set ↔ i 0 = t := by
  have h1 : (i 1).val < 512 := (i 1).isLt
  have h2 : (i 2).val < 2048 := (i 2).isLt
  rw [Rect.mem_set_unit, Fin.forall_fin_succ, Fin.forall_fin_two]
  show ((t.val ≤ (i 0).val ∧ (i 0).val < t.val + 1) ∧ (0 ≤ (i 1).val ∧ (i 1).val < 0 + 512) ∧ (0 ≤ (i 2).val ∧ (i 2).val < 0 + 2048)) ↔ _
  exact ⟨fun h => Fin.ext (show (i 0).val = t.val by omega), fun h => by have := congrArg Fin.val h; omega⟩

theorem conv_home (i : S2x512x2048.Idx) (t : Fin 2) : i ∈ (vR t).set ↔ i 0 = t := by
  have h1 : (i 1).val < 512 := (i 1).isLt
  have h2 : (i 2).val < 2048 := (i 2).isLt
  rw [Rect.mem_set_unit, Fin.forall_fin_succ, Fin.forall_fin_two]
  show ((t.val ≤ (i 0).val ∧ (i 0).val < t.val + 1) ∧ (0 ≤ (i 1).val ∧ (i 1).val < 0 + 512) ∧ (0 ≤ (i 2).val ∧ (i 2).val < 0 + 2048)) ↔ _
  exact ⟨fun h => Fin.ext (show (i 0).val = t.val by omega), fun h => by have := congrArg Fin.val h; omega⟩

/-- The half of the accumulator a row lies in. -/
def accHome (i : S1024x4096.Idx) : Fin 2 := ⟨(i 0).val / 512, by have : (i 0).val < 1024 := (i 0).isLt; omega⟩

theorem acc_home (i : S1024x4096.Idx) (t : Fin 2) : i ∈ (aR t).set ↔ accHome i = t := by
  have h1 : (i 1).val < 4096 := (i 1).isLt
  rw [Rect.mem_set_unit, Fin.forall_fin_two]
  show ((512 * t.val ≤ (i 0).val ∧ (i 0).val < 512 * t.val + 512) ∧ (0 ≤ (i 1).val ∧ (i 1).val < 0 + 4096)) ↔ _
  exact ⟨fun h => Fin.ext (show (i 0).val / 512 = t.val by omega), fun h => by have : (i 0).val / 512 = t.val := congrArg Fin.val h; omega⟩

/-! ## The result -/

/-- The pieces of the result: the two halves of the own block, and six pieces per ring. -/
abbrev Pc : Type := Fin 2 ⊕ (Bool × Fin 3 × Fin 2)

def pcR (c : Dev nD) : Pc → Rect S4096x4096
  | .inl s => fR c s
  | .inr (b, t, s) => hR b c (oK b t) s

/-- The step in which a ring receives a chunk. -/
def kO (b : Bool) (k : ℕ) : Fin 3 := cond b (match k with | 0 => 0 | 3 => 1 | _ => 2) (match k with | 2 => 0 | 3 => 1 | _ => 2)

/-- The piece an element of the result belongs to. -/
def pcHome (c : Dev nD) (i : S4096x4096.Idx) : Pc :=
  let k := ((i 0).val / 1024 + 4 - c.val) % 4
  let s : Fin 2 := ⟨(i 0).val / 512 % 2, Nat.mod_lt _ (by decide)⟩
  if k = 1 then .inl s else .inr (decide ((i 1).val < 2048), kO (decide ((i 1).val < 2048)) k, s)

theorem pc_stride (c : Dev nD) (t : Pc) (a : Fin 2) : (pcR c t).stride a = 1 := by
  obtain s | ⟨b, t, s⟩ := t <;> rfl

theorem kO_oK (b : Bool) (t : Fin 3) : kO b (oK b t).val = t ∧ (oK b t).val ≠ 1 := by revert b t; decide
theorem oK_kO (b : Bool) (k : Fin 4) (h : k.val ≠ 1) : oK b (kO b k.val) = k := by revert b k; decide

theorem pc_home (c : Dev nD) (i : S4096x4096.Idx) (t : Pc) : i ∈ (pcR c t).set ↔ pcHome c i = t := by
  have h0 : (i 0).val < 4096 := (i 0).isLt
  have h1 : (i 1).val < 4096 := (i 1).isLt
  have hc : c.val < 4 := c.isLt
  obtain s | ⟨b, t, s⟩ := t
  · unfold pcR
    rw [Rect.mem_set_unit, Fin.forall_fin_two]
    show ((row c 1 s ≤ (i 0).val ∧ (i 0).val < row c 1 s + 512) ∧ (0 ≤ (i 1).val ∧ (i 1).val < 0 + 4096)) ↔ _
    have hr : row c 1 s = 1024 * ((c.val + 1) % 4) + 512 * s.val := rfl
    rw [hr]
    unfold pcHome
    constructor
    · intro h
      have hk : ((i 0).val / 1024 + 4 - c.val) % 4 = 1 := by omega
      simp only [hk, if_true]
      exact congrArg Sum.inl (Fin.ext (by show (i 0).val / 512 % 2 = s.val; omega))
    · intro h
      by_cases hk : ((i 0).val / 1024 + 4 - c.val) % 4 = 1
      · simp only [hk, if_true] at h
        have h2 : (i 0).val / 512 % 2 = s.val := congrArg Fin.val (Sum.inl.inj h)
        omega
      · simp only [hk, if_false] at h
        cases h
  · unfold pcR
    rw [Rect.mem_set_unit, Fin.forall_fin_two]
    show ((row c (oK b t) s ≤ (i 0).val ∧ (i 0).val < row c (oK b t) s + 512) ∧ (col b ≤ (i 1).val ∧ (i 1).val < col b + 2048)) ↔ _
    have hr : row c (oK b t) s = 1024 * ((c.val + (oK b t).val) % 4) + 512 * s.val := rfl
    rw [hr]
    obtain ⟨hk1, hk2⟩ := kO_oK b t
    have hk4 : (oK b t).val < 4 := (oK b t).isLt
    unfold pcHome
    constructor
    · intro h
      have hk : ((i 0).val / 1024 + 4 - c.val) % 4 = (oK b t).val := by omega
      have hb : decide ((i 1).val < 2048) = b := by
        cases b
        · exact decide_eq_false (by have : 2048 ≤ (i 1).val := h.2.1; omega)
        · exact decide_eq_true (by have : (i 1).val < 0 + 2048 := h.2.2; omega)
      have hs : (⟨(i 0).val / 512 % 2, Nat.mod_lt _ (by decide)⟩ : Fin 2) = s := Fin.ext (by show (i 0).val / 512 % 2 = s.val; omega)
      simp only [hk, hb, hs, if_neg hk2, hk1]
    · intro h
      by_cases hk : ((i 0).val / 1024 + 4 - c.val) % 4 = 1
      · simp only [hk, if_true] at h
        cases h
      · simp only [hk, if_false] at h
        have h2 := Sum.inr.inj h
        have hb : decide ((i 1).val < 2048) = b := congrArg Prod.fst h2
        have ht : kO (decide ((i 1).val < 2048)) (((i 0).val / 1024 + 4 - c.val) % 4) = t := congrArg (fun x => x.2.1) h2
        have hs : (i 0).val / 512 % 2 = s.val := congrArg (fun x => x.2.2.val) h2
        have ho := oK_kO b ⟨((i 0).val / 1024 + 4 - c.val) % 4, Nat.mod_lt _ (by decide)⟩ hk
        rw [hb] at ht
        have hv : (oK b t).val = ((i 0).val / 1024 + 4 - c.val) % 4 := by rw [← ht, ho]
        rw [hv]
        refine ⟨?_, ?_⟩
        · show 1024 * ((c.val + ((i 0).val / 1024 + 4 - c.val) % 4) % 4) + 512 * s.val ≤ _ ∧ _
          omega
        · cases b
          · have := of_decide_eq_false hb
            show 2048 ≤ _ ∧ _ < 2048 + 2048; omega
          · have := of_decide_eq_true hb
            show 0 ≤ _ ∧ _ < 0 + 2048; omega

/-- The result on a device: its own block as computed, the other blocks as they travelled. -/
def outV (c : Dev nD) : Vec F S4096x4096 .f32 := fun i =>
  let d : Dev nD := ⟨((i 0).val / 1024 + 3) % 4, Nat.mod_lt _ (by decide)⟩
  let s : Fin 2 := ⟨(i 0).val / 512 % 2, Nat.mod_lt _ (by decide)⟩
  if d = c then ownV D s c (at2 ((i 0).val % 512) (i 1).val (Nat.mod_lt _ (by decide)) (i 1).isLt)
  else k0_pay34 (k0_pay1 (halfV D (decide ((i 1).val < 2048)) s d)) (at2 ((i 0).val % 512) ((i 1).val % 2048) (Nat.mod_lt _ (by decide)) (Nat.mod_lt _ (by decide)))

theorem out_own (c : Dev nD) (s : Fin 2) (j) : outV D c ((fR c s).emb j) = ownV D s c j := by
  have hj0 : (j 0).val < 512 := (j 0).isLt
  have hj1 : (j 1).val < 4096 := (j 1).isLt
  have hc : c.val < 4 := c.isLt
  have e0 : (((fR c s).emb j) 0).val = 1024 * ((c.val + 1) % 4) + 512 * s.val + (j 0).val := by
    rw [Rect.emb_apply]; show _ + 1 * (j 0).val = _; rw [Nat.one_mul]; rfl
  have e1 : (((fR c s).emb j) 1).val = (j 1).val := by
    rw [Rect.emb_apply]; show 0 + 1 * (j 1).val = _; omega
  have hd : (⟨((((fR c s).emb j) 0).val / 1024 + 3) % 4, Nat.mod_lt _ (by decide)⟩ : Dev nD) = c := Fin.ext (by show _ % 4 = c.val; rw [e0]; omega)
  have hs : (⟨(((fR c s).emb j) 0).val / 512 % 2, Nat.mod_lt _ (by decide)⟩ : Fin 2) = s := Fin.ext (by show _ % 2 = s.val; rw [e0]; omega)
  unfold outV
  simp only [hd, hs, if_true]
  congr 1
  funext a; revert a
  refine Fin.forall_fin_two.mpr ⟨Fin.ext ?_, Fin.ext ?_⟩
  · show (((fR c s).emb j) 0).val % 512 = (j 0).val; rw [e0]; omega
  · exact e1

/-- The device a finished block comes from. -/
def src (b : Bool) (t : Fin 3) (c : Dev nD) : Dev nD := ⟨(c.val + (oK b t).val + 3) % 4, Nat.mod_lt _ (by decide)⟩

theorem rcvd_block (b : Bool) (t : Fin 3) (s : Fin 2) (c : Dev nD) : rcvd D b (6 + 2 * t.val + s.val) c = k0_pay1 (halfV D b s (src b t c)) := by
  have h1 : (6 + 2 * t.val + s.val) / 2 = 3 + t.val := by omega
  have h2 : s2 (6 + 2 * t.val + s.val) = s := Fin.ext (by show (6 + 2 * t.val + s.val) % 2 = s.val; omega)
  unfold rcvd sent
  rw [h1, h2]
  have e0 : tgt (!b) c = src b 0 c := by revert b c; decide
  have e1 : tgt (!b) (tgt (!b) c) = src b 1 c := by revert b c; decide
  have e2 : tgt (!b) (tgt (!b) (tgt (!b) c)) = src b 2 c := by revert b c; decide
  match t with
  | 0 => rw [← e0]; rfl
  | 1 => rw [← e1]; rfl
  | 2 => rw [← e2]; rfl

theorem out_piece (c : Dev nD) (b : Bool) (t : Fin 3) (s : Fin 2) (j) :
    outV D c ((hR b c (oK b t) s).emb j) = k0_pay34 (rcvd D b (6 + 2 * t.val + s.val) c) j := by
  have hj0 : (j 0).val < 512 := (j 0).isLt
  have hj1 : (j 1).val < 2048 := (j 1).isLt
  have hc : c.val < 4 := c.isLt
  obtain ⟨-, hk⟩ := kO_oK b t
  have hk4 : (oK b t).val < 4 := (oK b t).isLt
  have e0 : (((hR b c (oK b t) s).emb j) 0).val = 1024 * ((c.val + (oK b t).val) % 4) + 512 * s.val + (j 0).val := by
    rw [Rect.emb_apply]; show _ + 1 * (j 0).val = _; rw [Nat.one_mul]; rfl
  have e1 : (((hR b c (oK b t) s).emb j) 1).val = col b + (j 1).val := by
    rw [Rect.emb_apply]; show _ + 1 * (j 1).val = _; rw [Nat.one_mul]; rfl
  have hd : (⟨((((hR b c (oK b t) s).emb j) 0).val / 1024 + 3) % 4, Nat.mod_lt _ (by decide)⟩ : Dev nD) = src b t c :=
    Fin.ext (by show _ % 4 = (c.val + (oK b t).val + 3) % 4; rw [e0]; omega)
  have hn : src b t c ≠ c := fun h => by have : (c.val + (oK b t).val + 3) % 4 = c.val := congrArg Fin.val h; omega
  have hs : (⟨(((hR b c (oK b t) s).emb j) 0).val / 512 % 2, Nat.mod_lt _ (by decide)⟩ : Fin 2) = s := Fin.ext (by show _ % 2 = s.val; rw [e0]; omega)
  have hb : decide ((((hR b c (oK b t) s).emb j) 1).val < 2048) = b := by
    rw [e1]; cases b
    · exact decide_eq_false (by show ¬ 2048 + (j 1).val < 2048; omega)
    · exact decide_eq_true (by show 0 + (j 1).val < 2048; omega)
  rw [rcvd_block]
  unfold outV
  simp only [hd, hs, hb, if_neg hn]
  congr 1
  funext a; revert a
  refine Fin.forall_fin_two.mpr ⟨Fin.ext ?_, Fin.ext ?_⟩
  · show (((hR b c (oK b t) s).emb j) 0).val % 512 = (j 0).val; rw [e0]; omega
  · show (((hR b c (oK b t) s).emb j) 1).val % 2048 = (j 1).val; rw [e1]
    cases b
    · show (2048 + (j 1).val) % 2048 = _; omega
    · show (0 + (j 1).val) % 2048 = _; omega

end Cert.RingProof
-- ==== Proof.Rooms.lean ====
/-
# 01_k — the memory the body works in

The kernel's buffers, whole, are the pieces the body starts from; the pieces it leaves are the buffers again,
the result at the value the kernel writes.
-/
module

public import proofs.«01_k».proof.Proof.Parts

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

variable (D : Data F) {κ : GSem nD τ sig → ℕ} {ks : Key → ℕ}

/-- The kernel's scratch buffers, at any contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

/-- A buffer, whole, at some contents. -/
def some' {sp : Space} {sh : Shape} {e : EltTy} (m : Memref sig .tc sp sh e) (c : Dev nD) : sProp 𝕄 := iprop(∃ X, owns (c : Thread nD τ) m fullShare X)

theorem whole_some (b : Ref sig .tc) (c : Dev nD) :
    (iprop(∃ f : Buf (Elt F) ((c : Thread nD τ).loc b), ((c : Thread nD τ).loc b) ↦{fullShare} f) : sProp 𝕄) = some' (F := F) (Memref.whole b) c := by
  unfold some'
  congr 1; funext f
  exact (owns_whole (c : Thread nD τ) b fullShare f).symm

/-- The same, named by what they are for. -/
def Scr' (c : Dev nD) : sProp 𝕄 :=
  iprop(some' aM c ∗ some' (cM true) c ∗ some' (cM false) c ∗ some' (sM true) c ∗ some' (sM false) c ∗ some' (vM true) c ∗ some' (vM false) c)

theorem scr_eq (c : Dev nD) : (Scr c : sProp 𝕄) = Scr' c := by
  unfold Scr Scr'
  simp only [whole_some]

/-! ## The pieces -/

theorem big_trio (Φ : Fin 3 × Fin 2 → sProp 𝕄) :
    bigSep Finset.univ Φ = iprop((Φ (0, 0) ∗ Φ (0, 1)) ∗ (Φ (1, 0) ∗ Φ (1, 1)) ∗ (Φ (2, 0) ∗ Φ (2, 1))) := by
  rw [bigSep_univ_prod, show (Finset.univ : Finset (Fin 3)) = {0, 1, 2} from by decide, big_insert (by decide), big_insert (by decide), bigSep_singleton,
    bigSep_univ_two, bigSep_univ_two, bigSep_univ_two]

theorem big_pc (Φ : Pc → sProp 𝕄) :
    bigSep Finset.univ Φ = iprop((Φ (.inl 0) ∗ Φ (.inl 1))
      ∗ ((Φ (.inr (true, 0, 0)) ∗ Φ (.inr (true, 0, 1))) ∗ (Φ (.inr (true, 1, 0)) ∗ Φ (.inr (true, 1, 1))) ∗ (Φ (.inr (true, 2, 0)) ∗ Φ (.inr (true, 2, 1))))
      ∗ ((Φ (.inr (false, 0, 0)) ∗ Φ (.inr (false, 0, 1))) ∗ (Φ (.inr (false, 1, 0)) ∗ Φ (.inr (false, 1, 1))) ∗ (Φ (.inr (false, 2, 0)) ∗ Φ (.inr (false, 2, 1))))) := by
  rw [big_sum, bigSep_univ_two, bigSep_univ_prod, big_bool, big_trio, big_trio]

theorem slots_in (b : Bool) (c : Dev nD) : some' (cM b) c ⊢ (iprop(slotA b 0 c ∗ slotA b 1 c ∗ slotA b 2 c ∗ slotA b 3 c) : sProp 𝕄) := by
  unfold some' slotA
  rw [← big_four fun s => iprop(∃ X, owns (c : Thread nD τ) (cS b s) fullShare X)]
  iintro ⟨%X, H⟩
  iapply (cut (hr := fun _ _ => rfl) slot_home X) $$ H

theorem slots_out (b : Bool) (c : Dev nD) : iprop(slotA b 0 c ∗ slotA b 1 c ∗ slotA b 2 c ∗ slotA b 3 c) ⊢ (some' (cM b) c : sProp 𝕄) := by
  unfold some' slotA
  rw [← big_four fun s => iprop(∃ X, owns (c : Thread nD τ) (cS b s) fullShare X)]
  exact uncut_any (hr := fun _ _ => rfl) slot_home

theorem conv_in (b : Bool) (c : Dev nD) : some' (vM b) c ⊢ (iprop(vA b 0 c ∗ vA b 1 c) : sProp 𝕄) := by
  unfold some' vA
  rw [← bigSep_univ_two fun s => iprop(∃ X, owns (c : Thread nD τ) (vS b s) fullShare X)]
  iintro ⟨%X, H⟩
  iapply (cut (hr := fun _ _ => rfl) conv_home X) $$ H

theorem conv_out (b : Bool) (c : Dev nD) : iprop(vA b 0 c ∗ vA b 1 c) ⊢ (some' (vM b) c : sProp 𝕄) := by
  unfold some' vA
  rw [← bigSep_univ_two fun s => iprop(∃ X, owns (c : Thread nD τ) (vS b s) fullShare X)]
  exact uncut_any (hr := fun _ _ => rfl) conv_home

theorem acc_in (c : Dev nD) : some' aM c ⊢ (iprop(accA 0 c ∗ accA 1 c) : sProp 𝕄) := by
  unfold some' accA
  rw [← bigSep_univ_two fun s => iprop(∃ X, owns (c : Thread nD τ) (aS s) fullShare X)]
  iintro ⟨%X, H⟩
  iapply (cut (hr := fun _ _ => rfl) acc_home X) $$ H

theorem acc_out (c : Dev nD) : iprop(owns (c : Thread nD τ) (aS 0) fullShare (ownV D 0 c) ∗ owns (c : Thread nD τ) (aS 1) fullShare (ownV D 1 c)) ⊢ (some' aM c : sProp 𝕄) := by
  refine BIBase.Entails.trans ?_ (uncut_any (hr := fun _ _ => rfl) acc_home)
  rw [bigSep_univ_two]
  iintro ⟨H0, H1⟩
  isplitl [H0]
  · iexists _; iexact H0
  · iexists _; iexact H1

theorem res_in (c : Dev nD) (X : Vec F S4096x4096 .f32) : owns (c : Thread nD τ) oM fullShare X ⊢ (iprop((oFA 0 c ∗ oFA 1 c) ∗ PiecesT c) : sProp 𝕄) := by
  refine BIBase.Entails.trans (cut (hr := pc_stride c) (pc_home c) X) ?_
  rw [big_pc]
  exact .rfl

theorem res_out (c : Dev nD) :
    iprop((owns (c : Thread nD τ) (oF c 0) fullShare (ownV D 0 c) ∗ owns (c : Thread nD τ) (oF c 1) fullShare (ownV D 1 c)) ∗ PiecesD D c)
      ⊢ (owns (c : Thread nD τ) oM fullShare (outV D c) : sProp 𝕄) := by
  refine BIBase.Entails.trans ?_ (uncut (hr := pc_stride c) (pc_home c) (outV D c))
  have h0 (s : Fin 2) : (fun j => outV D c ((pcR c (.inl s)).emb j)) = ownV D s c := funext fun j => out_own D c s j
  have h1 (b : Bool) (t : Fin 3) (s : Fin 2) : (fun j => outV D c ((pcR c (.inr (b, t, s))).emb j)) = k0_pay34 (rcvd D b (6 + 2 * t.val + s.val) c) :=
    funext fun j => out_piece D c b t s j
  rw [big_pc]
  simp only [h0, h1]
  exact .rfl

/-! ## The whole -/

/-- The semaphores only the device itself counts on, at rest. -/
def Own (c : Dev nD) : sProp 𝕄 := bigSep Finset.univ fun x : Ox => semVal ((c : Thread nD τ), xsem x) 0

theorem own_eq (c : Dev nD) : (Own c : sProp 𝕄)
    = iprop((semVal ((c : Thread nD τ), SemLoc.dma (stgS true)) 0 ∗ semVal ((c : Thread nD τ), SemLoc.dma (stgS false)) 0) ∗ sOwn 0 c ∗ sOwn 1 c) := by
  unfold Own
  rw [big_sum, big_bool, bigSep_univ_two]
  rfl

theorem rooms_in (c : Dev nD) (X : Vec F S4096x4096 .f32) :
    iprop(Scr c ∗ owns (c : Thread nD τ) xM fullShare (D.x c) ∗ owns (c : Thread nD τ) gM fullShare (D.g c) ∗ owns (c : Thread nD τ) oM fullShare X
      ∗ owns (c : Thread nD τ) wM fullShare (D.w c) ∗ Own c) ⊢ (Rooms D c : sProp 𝕄) := by
  rw [scr_eq, own_eq]
  unfold Scr' Rooms Room MidC idle inp
  iintro ⟨⟨SA, SCt, SCf, SSt, SSf, SVt, SVf⟩, HX, HG, HO, HW, ⟨Ht, Hf⟩, H0, H1⟩
  ihave SA := (acc_in c) $$ SA
  ihave SCt := (slots_in true c) $$ SCt
  ihave SCf := (slots_in false c) $$ SCf
  ihave SVt := (conv_in true c) $$ SVt
  ihave SVf := (conv_in false c) $$ SVf
  ihave HX := owns_half $$ HX
  ihave HG := owns_half $$ HG
  ihave HO := (res_in c X) $$ HO
  unfold some'
  icases SSt with ⟨%Yt, SSt⟩
  icases SSf with ⟨%Yf, SSf⟩
  icases HX with ⟨HXt, HXf⟩
  icases HG with ⟨HGt, HGf⟩
  icases HO with ⟨⟨HO0, HO1⟩, HP⟩
  icases SA with ⟨SA0, SA1⟩
  isplitl [SCt SVt SSt HXt HGt Ht]
  · iframe; iexists _; iframe; isplitl [HXt]
    · iexact HXt
    · iexact HGt
  isplitl [SCf SVf SSf HXf HGf Hf]
  · iframe; iexists _; iframe; isplitl [HXf]
    · iexact HXf
    · iexact HGf
  iframe

theorem rooms_out (c : Dev nD) :
    RoomsZ D c ⊢ (iprop(Scr c ∗ owns (c : Thread nD τ) xM fullShare (D.x c) ∗ owns (c : Thread nD τ) gM fullShare (D.g c)
      ∗ owns (c : Thread nD τ) oM fullShare (outV D c) ∗ owns (c : Thread nD τ) wM fullShare (D.w c) ∗ Own c) : sProp 𝕄) := by
  rw [scr_eq, own_eq]
  unfold Scr' RoomsZ Room MidZ idle inp
  iintro ⟨⟨SCt, SVt, ⟨%Yt, ⟨HXt, HGt⟩, SSt, Ht⟩⟩, ⟨SCf, SVf, ⟨%Yf, ⟨HXf, HGf⟩, SSf, Hf⟩⟩, ⟨HW, A0, A1, O0, O1, H0, H1⟩, P⟩
  isplitl [A0 A1 SCt SCf SVt SVf SSt SSf]
  · isplitl [A0 A1]
    · iapply (acc_out D c); iframe
    isplitl [SCt]
    · iapply (slots_out true c) $$ SCt
    isplitl [SCf]
    · iapply (slots_out false c) $$ SCf
    isplitl [SSt]
    · unfold some'; iexists _; iexact SSt
    isplitl [SSf]
    · unfold some'; iexists _; iexact SSf
    isplitl [SVt]
    · iapply (conv_out true c) $$ SVt
    · iapply (conv_out false c) $$ SVf
  isplitl [HXt HXf]
  · iapply (owns_join (X := D.x c) (Y := D.x c)); isplitl [HXt]
    · iexact HXt
    · iexact HXf
  isplitl [HGt HGf]
  · iapply (owns_join (X := D.g c) (Y := D.g c)); isplitl [HGt]
    · iexact HGt
    · iexact HGf
  isplitl [O0 O1 P]
  · iapply (res_out D c); iframe
  iframe

end Cert.RingProof
-- ==== Proof.Launch.lean ====
/-
# 01_k — the kernel as a region of the program

What a device's program holds around the kernel's call, and the call's obligation from the body's run.
-/
module

public import proofs.«01_k».proof.Proof.Rooms
public import proofs.«01_k».proof.Proof.Gen.KernelIdeal.Frame
public import proofs.«01_k».proof.Proof.Gen.KernelIdeal.Points
public import Idealize.ShloMosaic.Lib.Pipeline.RegionTalk

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

open Idealize.ShloMosaic.Pipeline (Dat BodyObligation)

variable (m : (ℓ : Loc nD τ sig) → Buf (Elt F) ℓ) (ρ : Dev nD → PrngReg)

/-! ## Contents -/

abbrev V₀ (c : Dev nD) : Valuation τ sig (Elt F) := fun b => m (c, b)
abbrev V₁ (c : Dev nD) : Valuation τ sig (Elt F) := StableHlo.after hostOps0 (V₀ m c)

/-- What the kernel reads: the partial sums and the weights as launched, the scale as staged. -/
def dataOf : Data F where
  x c := m ((c : Thread nD τ).loc main_arg0)
  g c := m ((c : Thread nD τ).loc main_arg1)
  w c := iblk m c 0 t0_0

/-- The buffers after the kernel: the result written. -/
abbrev V₂ (c : Dev nD) : Valuation τ sig (Elt F) := Function.update (V₁ m c) (Proc.devRef .tc main_v3) (outV (dataOf m) c)
theorem V₂_v3 (c : Dev nD) : V₂ m c main_v3 = outV (dataOf m) c := Function.update_self ..
theorem V₂_ne (c : Dev nD) (b : DevRef τ sig) (h : b ≠ Proc.devRef .tc main_v3) : V₂ m c b = V₁ m c b := Function.update_of_ne h ..
theorem V₂_arg0 (c : Dev nD) : V₂ m c main_arg0 = m ((c : Thread nD τ).loc main_arg0) := (V₂_ne m c _ (by decide)).trans (V_main_arg0 m c)
theorem V₂_arg1 (c : Dev nD) : V₂ m c main_arg1 = m ((c : Thread nD τ).loc main_arg1) := (V₂_ne m c _ (by decide)).trans (V_main_arg1 m c)
theorem V₂_arg2 (c : Dev nD) : V₂ m c main_arg2 = m ((c : Thread nD τ).loc main_arg2) := (V₂_ne m c _ (by decide)).trans (V_main_arg2 m c)

def bufs : Finset (DevRef τ sig) := (StableHlo.tcRefs τ sig).filter fun b => ¬ b.isScoped
/-- The buffers the body addresses itself. -/
def Hs : Finset (DevRef τ sig) := {Proc.devRef .tc main_arg0, Proc.devRef .tc main_arg1, Proc.devRef .tc main_v3}
/-- All but the staged one. -/
def Sr : Finset (DevRef τ sig) := bufs \ Pipeline.arrRefs (τ := τ) spec0

theorem arr_sub : Pipeline.arrRefs (τ := τ) spec0 ⊆ bufs := by decide
theorem Hs_sub : Hs ⊆ Sr := by decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem Hs_eq (c : Dev nD) (W : Valuation τ sig (Elt F)) : (StableHlo.held (c : Thread nD τ) Hs W : sProp 𝕄)
    = iprop(owns (c : Thread nD τ) xM fullShare (W main_arg0) ∗ owns (c : Thread nD τ) gM fullShare (W main_arg1) ∗ owns (c : Thread nD τ) oM fullShare (W main_v3)) := by
  unfold StableHlo.held Hs
  rw [big_insert (by decide), big_insert (by decide), bigSep_singleton, owns_whole, owns_whole, owns_whole]

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

theorem ownSems_eq (c : Dev nD) : (Pipeline.ownSems0 osem c : sProp 𝕄) = iprop((bigSep Finset.univ fun x : Cx => semVal (cx c x) 0) ∗ Own c) := by
  unfold Pipeline.ownSems0 Own
  rw [big_sum]
  rfl

/-! ## The call's proof data -/

/-- A device's share of the protocol as launched, -/
def Tk (c : Dev nD) : sProp 𝕄 :=
  iprop((∃ κ ks, recs (dataOf m) κ ks) ∗ Lin c ∗ (cred (tallyAt (barC c) 1 2) ∗ Creds true c ∗ Creds false c))
/-- and with the kernel's semaphores opened. -/
def Xk (c : Dev nD) : sProp 𝕄 :=
  iprop((∃ κ ks, recs (dataOf m) κ ks) ∗ Awake c ∗ (cred (tallyAt (barC c) 1 2) ∗ Creds true c ∗ Creds false c) ∗ Own c)
def Yk (c : Dev nD) : sProp 𝕄 := semVal (barC c) 0

/-- Before the body and after it, but for the staged scale. -/
def Phi0 (c : Dev nD) : sProp 𝕄 :=
  iprop(Scr c ∗ (∃ r, prngReg c r) ∗ (owns (c : Thread nD τ) xM fullShare ((dataOf m).x c) ∗ owns (c : Thread nD τ) gM fullShare ((dataOf m).g c)
    ∗ owns (c : Thread nD τ) oM fullShare (V₁ m c main_v3)) ∗ Xk m c)
def Phi1 (c : Dev nD) : sProp 𝕄 :=
  iprop(Scr c ∗ (∃ r, prngReg c r) ∗ (owns (c : Thread nD τ) xM fullShare ((dataOf m).x c) ∗ owns (c : Thread nD τ) gM fullShare ((dataOf m).g c)
    ∗ owns (c : Thread nD τ) oM fullShare (outV (dataOf m) c)) ∗ ((bigSep Finset.univ fun x : Cx => semVal (cx c x) 0) ∗ Own c) ∗ Yk c)

def dat (c : Dev nD) : Pipeline.Dat τ (Elt F) ℕ ℕ UU ℕ cfg0 c where
  A w := V m c (Pipeline.arrRef spec0 w)
  after
    | 0, t => iblk m c 0 t
    | ⟨_ + 1, h⟩, _ => absurd h (Nat.not_lt.2 (Nat.le_add_left _ _))
  Φ t := if t.val = 0 then Phi0 m c else Phi1 m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c := fun _ c => dat m c

theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (dat (F := F) m c).owed (Fin.last cfg0.N) = 0 := by
  show (if (Fin.last cfg0.N).val = 0 then O₀ c else 0) = 0
  rw [Fin.val_last, if_neg (by rw [show cfg0.N = 1 from N_0]; decide)]

theorem before_eq (c : Dev nD) (t : Fin cfg0.N) (d) : (dat (F := F) m c).before 0 t d = iblk m c 0 t :=
  ((dat m c).before_in_eq_fetched 0 rfl (fun _ => rfl) (fun _ _ _ => rfl) (fun t => by unfold Dat.blockOf; exact rfl) t d).trans rfl

set_option maxRecDepth 16384 in
theorem body_obl (c : Dev nD) : BodyObligation (dat (F := F) m c) defs₀ 𝒱₀ 0 Set.univ := fun t => by
  obtain rfl := fin_N0 t
  rw [bigSep_W0, bigSep_W0]
  rw [show (dat m c).Φ t0_0.castSucc = Phi0 m c from rfl, show (dat m c).Φ t0_0.succ = Phi1 m c from rfl]
  show iprop(Phi0 m c ∗ (dat m c).owesAt 0 t0_0.castSucc ∗ ∃ d, owns (c : Thread nD τ) wM fullShare ((dat m c).before 0 t0_0 d))
    ⊢ WP c (ap cc0_body) fun _ => iprop(Phi1 m c ∗ (dat m c).owesAt 0 t0_0.succ ∗ owns (c : Thread nD τ) wM fullShare ((dataOf m).w c))
  unfold Phi0 Phi1 Xk Yk Pipeline.Dat.owesAt Pipeline.owesWithin
  rw [owed_first, show (dat (F := F) m c).owed t0_0.succ = 0 from owed_last m c]
  iintro ⟨⟨HS, HP, ⟨HX, HG, HO⟩, ⟨%κ, %ks, #HR⟩, HA, HC, HD⟩, ⟨%W, -, Hw⟩, %d, HW⟩
  rw [before_eq]
  ihave HZ := (rooms_in (dataOf m) c (V₁ m c main_v3)) $$ [HS HX HG HO HW HD]
  · isplitl [HS]; · iexact HS
    isplitl [HX]; · iexact HX
    isplitl [HG]; · iexact HG
    isplitl [HO]; · iexact HO
    isplitl [HW]; · iexact HW
    iexact HD
  ihave HE := (enter (dataOf m) (κ := κ) (ks := ks) c) $$ [HA HC HZ]
  · isplitr; · iexact HR
    iframe
  icases HE with ⟨#HX, HB⟩
  iapply (body (dataOf m) (κ := κ) (ks := ks)) $$ [HB Hw]
  · isplitr; · iexact HX
    isplitl [HB]; · iexact HB
    unfold owesN; iexists W; iexact Hw
  iintro ⟨HA, HO⟩
  imod (leave (dataOf m) (κ := κ) (ks := ks) c) $$ [HA] with ⟨Hb, Hc, HZ⟩
  · isplitr; · iexact HX
    iexact HA
  ihave HZ := (rooms_out (dataOf m) c) $$ HZ
  icases HZ with ⟨HS, HX1, HG, HO1, HW, HD⟩
  unfold owesN
  icases HO with ⟨%W', HO⟩
  imodintro
  isplitr [HO HW]
  · iframe
  isplitl [HO]
  · iexists W'; isplitr; · ipureintro; exact fun _ _ => Or.inl trivial
    iexact HO
  iexact HW

end Cert.RingProof
-- ==== Proof.Run.lean ====
/-
# 01_k — the run of the whole program

Every execution ends, with the arguments unchanged, the result as the kernel writes it and every semaphore at zero.
-/
module

public import proofs.«01_k».proof.Proof.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.SiteBlocks (L lv mayWait_of)

variable {F : FTy → Type} [FloatOps F]

local notation "𝕄" => MT nD τ sig ℕ (Elt F) ℕ UU ℕ

variable {α : Type} {c : Dev nD} {Q : α → sProp (MT nD τ sig ℕ (Elt F) ℕ UU ℕ)}

variable (D : Data F) {κ : GSem nD τ sig → ℕ} {ks : Key → ℕ}

variable (m : (ℓ : Loc nD τ sig) → Buf (Elt F) ℓ) (ρ : Dev nD → PrngReg)

/-! ## The two segments -/

local notation "ℍ" => Pipeline.HostSeg (Name := ℕ) (U := UU) (pcfgs (F := F)) defs₀ 𝒱₀ (L 21) lv
local notation "ℝ𝕊" => Pipeline.RegionSeg (pcfgs (F := F)) adm (pdats m) 0 defs₀ 𝒱₀ (L 21) lv

theorem ops_sub : ∀ op ∈ (hostOps0 : List (HloOp τ sig (Elt F))), op.bufs ⊆ bufs := List.forall_iff_forall_mem.mp (by
  simp only [List.Forall]
  refine ⟨?_, ?_, ?_, ?_⟩
  · show ({Proc.devRef .tc main_arg2, Proc.devRef .tc main_v1} : Finset (DevRef τ sig)) ⊆ bufs; decide
  · show ({Proc.devRef .tc main_cst} : Finset (DevRef τ sig)) ⊆ bufs; decide
  · show ({Proc.devRef .tc main_cst, Proc.devRef .tc main_v2} : Finset (DevRef τ sig)) ⊆ bufs; decide
  · show ({Proc.devRef .tc main_v2, Proc.devRef .tc main_v3} : Finset (DevRef τ sig)) ⊆ bufs; decide)

/-- What rides along until the kernel is called. -/
def R (c : Dev nD) : sProp 𝕄 := iprop(Tk m c ∗ (∃ r, prngReg c r) ∗ ∃ W, owes (c : Thread nD τ) (O₀ c) W)

def seg0' : ℍ := Pipeline.HostSeg.ofOps _ _ _ _ _ bufs hostOps0 ops_sub (List.forall_iff_forall_mem.mp hostOps0_fresh) (V₀ m) (R m)

theorem hopen (c : Dev nD) : iprop(Tk m c ∗ Pipeline.ownSems0 osem c ∗ levAts (L 21) lv) ⊢ (|={Set.univ}=> Xk m c : sProp 𝕄) := by
  rw [ownSems_eq]
  unfold Tk Xk
  iintro ⟨⟨⟨%κ, %ks, #HR⟩, HL, HC⟩, ⟨Hc, HD⟩, -⟩
  imod (wake (dataOf m) (κ := κ) (ks := ks) c) $$ [HL Hc] with HA
  · isplitr; · iexact HR
    isplitl [HL] <;> iassumption
  imodintro
  isplitr [HA HC HD]
  · iexists κ, ks; iexact HR
  iframe

theorem owed_zero (c : Dev nD) : (pdats (F := F) m 0 c).owed 0 = O₀ c := by
  show (if ((0 : Fin (cfg0.N + 1)).val = 0) then O₀ c else 0) = O₀ c; exact if_pos rfl

theorem hin (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = Phi0 m c from rfl, show (Pipeline.scopedRest (Pipeline.pin (pcfgs (F := F)) adm 0).spec c : sProp 𝕄) = Scr c from scopedRest0_eq c, Hs_eq]
  unfold Phi0
  rw [show (dataOf m).x c = V₁ m c main_arg0 from (V_main_arg0 m c).symm, show (dataOf m).g c = V₁ m c main_arg1 from (V_main_arg1 m c).symm]

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = Phi1 m c from rfl, show (Pipeline.scopedRest (Pipeline.pin (pcfgs (F := F)) adm 0).spec c : sProp 𝕄) = Scr c from scopedRest0_eq c,
    Hs_eq, ownSems_eq, V₂_arg0, V₂_arg1, V₂_v3]
  exact .rfl

theorem cutD (c : Dev nD) (t : Fin ((Pipeline.pin (pcfgs (F := F)) adm 0).N + 1)) (g : GSem nD τ sig) (i : ℕ) (h : 0 < (pdats (F := F) m 0 c).owed t g i) :
    i ∈ L 21 g ∧ (0 : ℕ) < lv g i := by
  have e : (pdats (F := F) m 0 c).owed t = if t.val = 0 then O₀ c else 0 := rfl
  rw [e] at h
  split at h
  · obtain ⟨x, -, rfl, rfl⟩ := payL_pos evs c h
    obtain ⟨h1, h2⟩ := pay_lev c x
    rw [h1]
    exact ⟨SiteBlocks.mem_L' h2 (lev_lt x), lev_pos x⟩
  · exact absurd h (Nat.lt_irrefl 0)

theorem own_facts : Pipeline.OwnSemFacts spec0 osem := by decide +kernel

theorem arr_eq (c : Dev nD) (w : Fin 1) (t : ℕ) : (pdats (F := F) m 0 c).arrAt w t = V m c (Pipeline.arrRef spec0 w) := by
  obtain rfl : w = 0 := Subsingleton.elim _ _
  exact (pdats m 0 c).arrAt_in 0 rfl t

set_option backward.isDefEq.respectTransparency.types false in
def reg : ℝ𝕊 0 :=
  Pipeline.RegionSeg.ofTalk (pcfgs (F := F)) adm (pdats m) 0 defs₀ 𝒱₀ (L 21) lv 0 osem own_facts
    Hs Sr Hs_sub launch0.toP rfl (fun c => (body_obl m c).loose)
    (fun _ => 0) O₀ (fun c => (owed_zero m c).trans (zero_add _).symm) (owed_last m) (fun _ => rfl) (fun c w => by obtain rfl : w = 0 := Subsingleton.elim _ _; rfl)
    (V₁ m) (V₂ m) (fun c b hb => V₂_ne m c b fun h => (Finset.mem_sdiff.mp hb).2 (h ▸ by decide))
    (Tk m) Yk (Xk m) Yk (hopen m) (hin m) (hout m)
    (fun c => by iintro H; imodintro; iexact H)
    (fun _ => 0)
    ⟨fun c _ _ => SiteBlocks.mem_L c _ (by decide), fun _ _ _ => Nat.le_refl _, fun c t g i h => cutD m c t g i h⟩
    (fun _ => iprop(emp))
    (fun c w => arr_eq m c w 0)
    (fun c w => (arr_eq m c w _).trans (by obtain rfl : w = 0 := Subsingleton.elim _ _; exact (V₂_ne m c (Proc.devRef .tc main_v1) (by decide)).symm))

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [StableHlo.held_sub_split (c.tc : Thread nD τ) arr_sub (V₁ m c), zero_add]
  unfold R
  iintro ⟨⟨Ha, Hr⟩, HT, HP, HO⟩
  isplitl [Ha]; · iexact Ha
  isplitl [HP]; · iexact HP
  isplitl [Hr]
  · isplitl [Hr]; · iexact Hr
    iempintro
  isplitl [HT]; · iexact HT
  iexact HO

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barC c) 0)

theorem reg_post (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ Yk c ∗ ∃ Wd, owes (c : Thread nD τ) (0 : CellTallies nD τ sig ℕ) Wd) ⊢ _
  unfold Tₙ Yk
  rw [StableHlo.held_sub_split (c.tc : Thread nD τ) arr_sub (V₂ m c)]
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) 0 defs₀ 𝒱₀ (L 21) lv) := [.host (seg0' m), .region (reg m)]

theorem main_eq (c : Dev nD) : main (F := F) c = Pipeline.Seg.run (segs m) :=
  main_segs adm (pdats m) 0 𝒱₀ (L 21) lv (seg0' m) (reg m) rfl c

/-! ## The launch -/

theorem cells_inj : Function.Injective (Pipeline.cellOf (nD := nD) (τ := τ) (Pipeline.pin (pcfgs (F := F)) adm)) := cellOf_inj

/-- The ghost state at launch: the staging's, the protocol's rounds, the slots' counts. -/
def u₀ : UU :=
  (initOf (Pipeline.cells (Pipeline.pin (pcfgs (F := F)) adm) cells_inj) (Pipeline.launchToks (Pipeline.pin (pcfgs (F := F)) adm) cells_inj),
    (launchR, (launchS, 1)))

/-- The protocol's part of it, kept on one device until all share it out. -/
def Gx : sProp 𝕄 := iprop(BI.own (ER launchR) ∗ BI.own (ES launchS))
def G (c : Dev nD) : sProp 𝕄 := if c = 0 then Gx else iprop(emp)

theorem G_eq : bigSep Finset.univ (G (F := F)) ⊢ (Gx : sProp 𝕄) := by
  rw [big_four]
  unfold G
  rw [if_pos rfl]
  iintro ⟨H, -⟩; iexact H

theorem G_intro : (Gx : sProp 𝕄) ⊢ bigSep Finset.univ (G (F := F)) := by
  rw [big_four]
  unfold G
  rw [if_pos rfl, if_neg (by decide), if_neg (by decide), if_neg (by decide)]
  iintro H
  isplitl [H]; · iexact H
  isplitr; · iempintro
  isplitr; · iempintro
  iempintro

/-- What of a device's launch holdings is not the protocol's. -/
def Bun (c : Dev nD) : sProp 𝕄 :=
  iprop(StableHlo.held (c : Thread nD τ) bufs (V₀ m c) ∗ (cred (tallyAt (barC c) 1 2) ∗ Creds true c ∗ Creds false c)
    ∗ owes (c : Thread nD τ) (O₀ c) ∅ ∗ ∃ r, prngReg c r)

theorem T₀_intro {κ : GSem nD τ sig → ℕ} {ks : Key → ℕ} (c : Dev nD) : iprop(recs (dataOf m) κ ks ∗ (Lin c ∗ Bun m c)) ⊢ T₀ m c := by
  unfold Bun T₀ R Tk
  iintro ⟨#HR, Hl, Hh, HC, HO, Hp⟩
  isplitl [Hh]; · iexact Hh
  isplitl [Hl HC]
  · isplitr
    · iexists κ, ks; iexact HR
    isplitl [Hl] <;> iassumption
  isplitl [Hp]; · iexact Hp
  iexists ∅; iexact HO

theorem big_unpair {I : Type} [DecidableEq I] {S : Finset I} {Φ Ψ : I → sProp 𝕄} : (bigSep S fun i => iprop(Φ i ∗ Ψ i)) ⊢ iprop(bigSep S Φ ∗ bigSep S Ψ) :=
  Entails.of_eq (bigSep_sep' S Φ Ψ)

theorem core (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Bun m c ∗ (semVal (barC c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold Bun
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts (L 21) lv)
      ⊢ (|={Set.univ}=> bigSep Finset.univ (T₀ m) : sProp 𝕄) := by
  iintro ⟨H, HL⟩
  ihave H := (big_mono fun c => core m ρ c) $$ H
  ihave H := big_unpair $$ H
  icases H with ⟨HB, H⟩
  ihave H := big_unpair $$ H
  icases H with ⟨Hv, HG⟩
  ihave HG := G_eq $$ HG
  unfold Gx
  icases HG with ⟨HR, HS⟩
  imod (fund (dataOf m)) $$ [Hv HR HS HL] with ⟨%κ, %ks, #HR, Hl⟩
  · iframe
  imodintro
  iapply (bigSep_with_persistent (R := recs (dataOf m) κ ks) (Φ := fun c => iprop(Lin c ∗ Bun m c)) fun c _ => T₀_intro m c)
  isplitr; · iexact HR
  iapply big_pair
  isplitl [Hl] <;> iassumption

theorem unscoped_eq : ∀ sm : SemLoc sig, sm.isScoped .tc = false → sm = .reg barS := by decide +kernel

/-! ## The run -/

/-- The arguments and the result. -/
def kept : Finset (DevRef τ sig) := {Proc.devRef .tc main_arg0, Proc.devRef .tc main_arg1, Proc.devRef .tc main_arg2, Proc.devRef .tc main_v3}

theorem bufs_eq (c : Dev nD) (W : Valuation τ sig (Elt F)) : (StableHlo.held (c : Thread nD τ) bufs W : sProp 𝕄)
    ⊢ iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v3) ↦{fullShare} W main_v3)) := by
  have h : kept ⊆ bufs := by decide
  have h1 : iprop(StableHlo.held (c : Thread nD τ) kept W ∗ StableHlo.held (c : Thread nD τ) (bufs \ kept) W) ⊢ (StableHlo.held (c : Thread nD τ) kept W : sProp 𝕄) := by
    iintro ⟨H, -⟩; iexact H
  rw [StableHlo.held_sub_split (c : Thread nD τ) h W]
  refine BIBase.Entails.trans h1 ?_
  unfold StableHlo.held kept
  rw [big_insert (by decide), big_insert (by decide), big_insert (by decide), bigSep_singleton]

set_option backward.isDefEq.respectTransparency.types false in
theorem run_main : θ_run defs (onTc (τ := τ) (main (F := F))) ⟨m, fun _ => 0, ρ⟩
    (fun r => (∀ c : Dev nD, r.2.mem ((c : Thread nD τ).loc main_v3) = outV (dataOf m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) 0 cells_inj EP defs₀ 𝒱₀ (L 21) lv m ρ main (segs m)
    (fun c Q => by rw [main_eq m c])
    (by simp only [segs, Pipeline.Seg.pipes_host, Pipeline.Seg.pipes_region, Pipeline.Seg.pipes_nil]; decide)
    (O₀ := O₀) (hL := SiteBlocks.hL 21) (G := G) (u₀ := u₀ (F := F))
    (hu₀ := by
      unfold u₀
      iintro Hu
      ihave H := (ownU_pair _ _) $$ Hu
      icases H with ⟨HP, HX⟩
      ihave HX := (own_pair_emb (embR) launchR (launchS, 1)) $$ HX
      icases HX with ⟨HR, HX⟩
      ihave HX := (own_pair_emb ((Emb.inr : Emb (USlots Key × Counters) (UP × (USlots Key × Counters))).trans embR) launchS 1) $$ HX
      icases HX with ⟨HS, -⟩
      imodintro
      isplitl [HP]; · iexact HP
      iapply G_intro
      unfold Gx ER ES
      isplitl [HR] <;> iassumption)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v3) = V₂ m c main_v3) ∧ s.sem (barC c) = 0)
    (hfin := fun c s' => by
      dsimp only [Tₙ]
      iintro ⟨⟨Hh, Hb⟩, HSI⟩
      ihave Hh := (bufs_eq c (V₂ m c)) $$ Hh
      icases Hh with ⟨H0, H1, H2, H3⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₂_arg0] at h0; rw [V₂_arg1] at h1; rw [V₂_arg2] at h2; rw [V₂_v3] at h3
        exact ⟨h3, h0, h1, h2⟩,
      sem_eq_zero hs fun c sm hsm => by
        obtain rfl := unscoped_eq sm hsm
        exact (h c).2⟩)

end Cert.RingProof
-- ==== Proof.Frames.lean ====
/-
# 01_k — the frames

Each program ends with its arguments unchanged and every semaphore at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.RingProof

open Idealize.ShloMosaic Idealize.SL.Sem
open Idealize.ShloMosaic.TcCoe

section Any

open Cert.KernelIdeal

variable {F : FTy → Type} [FloatOps F]

/-- Over any float values. -/
theorem frame_any (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => (h.1 c).2, h.2⟩) (run_main m ρ)

end Any

theorem frame_kernelIdeal : Cert.quiescent_KernelIdeal := fun m ρ _ => frame_any m ρ

/-- The two programs have the same text: the bodies agree label by label, -/
theorem bodies_eq : Cert.Kernel.defs₀ (F := Bits) = Cert.KernelIdeal.defs₀ (F := Bits) := by
  funext l x
  cases l with
  | tc =>
    obtain ⟨n, h⟩ := x
    cases n with
    | zero => funext a; rfl
    | succ n => exact absurd h (Nat.not_lt.2 (Nat.le_add_left _ _))
  | _ => rfl
/-- and so do the tables. -/
theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  rw [defs_eq]
  exact frame_any (F := Bits) m ρ

/-- The reference has no semaphore. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

end Cert.RingProof

end
-- ==== Proof.Maths.lean ====
/-
# 01_k — the equation over the extended reals

A row divided by the root of its mean square plus a small positive number is the row times the reciprocal
root of that number, and the four devices' partial sums add up to the same in whatever order a ring meets them.
-/
module

public import proofs.«01_k».proof.Proof.Ring
public import Idealize.ShloMosaic.Lib.Pointwise

@[expose] public section

noncomputable section

namespace Cert.RingProof

open Idealize.ShloMosaic

/-! ## Numbers -/

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- The length of a row and the number added to the mean, as the programs write them. -/
theorem len_eq : Ideal.ofBits .f32 0x45800000#32 = ((4096 : ℝ) : EReal) := by
  simp [Ideal.ofBits, Ideal.ieee, -EReal.coe_mul]; norm_num
theorem eps_pos : 0 < Ideal.ofBits .f32 0x358637BD#32 := by
  simp [Ideal.ofBits, Ideal.ieee, -EReal.coe_mul]

/-- What is under the root, of a sum of squares. -/
def under (ss : EReal) : EReal := Ideal.div ss (Ideal.ofBits .f32 0x45800000#32) + Ideal.ofBits .f32 0x358637BD#32

theorem under_pos {ss : EReal} (h : 0 ≤ ss) : 0 < under ss := by
  unfold under
  rw [len_eq, Ideal.div_coe (by norm_num : (4096 : ℝ) ≠ 0)]
  exact lt_of_lt_of_le eps_pos (le_add_of_nonneg_left (mul_nonneg h (EReal.coe_nonneg.mpr (by norm_num))))

/-- Division by a root of a positive number is multiplication by its reciprocal root. -/
theorem div_sqrt (y : EReal) {a : EReal} (h : 0 < a) : Ideal.div y (Ideal.sqrt a) = y * Ideal.rsqrt a := by
  induction a with
  | bot => exact absurd h (by simp)
  | top =>
    show Ideal.div y ⊤ = y * 0
    unfold Ideal.div
    rw [if_neg EReal.top_ne_zero, EReal.inv_top]
  | coe r =>
    have hr : 0 < r := EReal.coe_pos.mp h
    have hs : Real.sqrt r ≠ 0 := (Real.sqrt_pos.mpr hr).ne'
    have h1 : Ideal.sqrt (r : EReal) = ((Real.sqrt r : ℝ) : EReal) := if_neg (not_lt.mpr hr.le)
    have h2 : Ideal.rsqrt (r : EReal) = (((Real.sqrt r)⁻¹ : ℝ) : EReal) := (if_neg (not_lt.mpr hr.le)).trans (if_neg hr.ne')
    rw [h1, h2, Ideal.div_coe hs, one_div]

/-! ## Four devices -/

open Cert.KernelIdeal in
/-- A sum over the devices, taken in the order in which a ring meets them before `d`. -/
theorem sum_ring (b : Bool) (d : Dev nD) (f : Dev nD → EReal) :
    f (tgt (!b) (tgt (!b) (tgt (!b) d))) + f (tgt (!b) (tgt (!b) d)) + f (tgt (!b) d) + f d = ∑ e : Dev nD, f e := by
  let σ : Fin 4 → Dev nD := fun | 0 => tgt (!b) (tgt (!b) (tgt (!b) d)) | 1 => tgt (!b) (tgt (!b) d) | 2 => tgt (!b) d | 3 => d
  have hσ : Function.Bijective σ := by
    revert b d; decide
  rw [← (Equiv.ofBijective σ hσ).sum_comp f, Fin.sum_univ_four]
  rfl

end Cert.RingProof

end
-- ==== Proof.Values.lean ====
/-
# 01_k — the result is the reference's

Over the extended reals every block the kernel writes, its own and those that travelled, is the reference's
result at the same place.
-/
module

public import proofs.«01_k».proof.Proof.Frames
public import proofs.«01_k».proof.Proof.Maths

@[expose] public section

set_option maxRecDepth 16384

noncomputable section

namespace Cert.RingProof

open Idealize.ShloMosaic Idealize.SL.Sem
open Idealize.ShloMosaic.TcCoe

/-! ## What the reference computes -/

section Reference

open Cert.ReferenceIdeal Cert.ReferenceIdeal.Gen

variable (X : Vec Ideal S4x4096x4096 .f32) (G : Vec Ideal S4096x4096 .f32) (W : Vec Ideal S4096 .f32)

/-- The partial sums added up, with the residual. -/
def tot (a b : Fin 4096) : EReal := ∑ e, X (ix3 e a b) + G (ix2 a b)
/-- The result at a position: the row times its reciprocal root, times the weight. -/
def rmsN (a b : Fin 4096) : EReal := tot X G a b * Ideal.rsqrt (under (∑ k, tot X G a k * tot X G a k)) * W (ix1 b)

/-- The reference's operations, composed. -/
def refV : Vec Ideal S4096x4096 .f32 :=
  let y := addf (Host.reduceAdd X (constant (F := Ideal) S_ .f32 0x00000000#32) reducesTo_S4x4096x4096_S4096x4096_d0 h_S_) G
  mulf (Host.divf y (broadcastInDim S4096x4096 ![0, 1] bcast_S4096x1_S4096x4096_0_1 (Host.sqrt (addf (Host.divf
      (broadcastInDim S4096x1 ![0] bcast_S4096_S4096x1_0 (Host.reduceAdd (mulf y y) (constant (F := Ideal) S_ .f32 0x00000000#32) reducesTo_S4096x4096_S4096_d1 h_S_))
      (broadcastInDim S4096x1 ![] bcast_S_S4096x1 (constant (F := Ideal) S_ .f32 0x45800000#32)))
      (broadcastInDim S4096x1 ![] bcast_S_S4096x1 (constant (F := Ideal) S_ .f32 0x358637BD#32))))))
    (broadcastInDim S4096x4096 ![0, 1] bcast_S1x4096_S4096x4096_0_1 (broadcastInDim S1x4096 ![1] bcast_S4096_S1x4096_1 W))

theorem refV_apply (a b : Fin 4096) : refV X G W (ix2 a b) = rmsN X G W a b := by
  have h : refV X G W (ix2 a b)
      = Ideal.div (tot X G a b) (Ideal.sqrt (under (∑ k, tot X G a k * tot X G a k))) * W (ix1 b) := by
    unfold tot under
    pointwise [refV]
  rw [h, div_sqrt _ (under_pos (Finset.sum_nonneg fun k _ => square_nonneg _))]
  rfl

end Reference

/-! ## What the kernel's steps compute -/

section Kernel

open Cert.KernelIdeal Cert.KernelIdeal.Gen

theorem at2_eq {n k : ℕ} (i j : ℕ) (hi : i < n) (hj : j < k) : at2 i j hi hj = ix2 ⟨i, hi⟩ ⟨j, hj⟩ := by
  funext a; revert a
  exact Fin.forall_fin_two.mpr ⟨rfl, rfl⟩

variable (u : Vec Ideal S1x512x2048 .bf16) (v v' : Vec Ideal S512x2048 .f32) (a : Fin 512) (b : Fin 2048)

theorem convert_apply : k0_pay1 v (ix3 0 a b) = v (ix2 a b) := by pointwise [k0_pay1]
theorem accum_apply : k0_pay5 u v (ix3 0 a b) = u (ix3 0 a b) + v (ix2 a b) := by pointwise [k0_pay5]
theorem last_apply : k0_pay15 u v (ix2 a b) = u (ix3 0 a b) + v (ix2 a b) := by pointwise [k0_pay15]
theorem resid_apply : k0_pay17 v v' (ix2 a b) = v (ix2 a b) + v' (ix2 a b) := by pointwise [k0_pay17]
theorem store_apply : k0_pay34 u (ix2 a b) = u (ix3 0 a b) := by pointwise [k0_pay34]
theorem tile_apply (t : Vec Ideal S256x4096 .f32) (w : Vec Ideal S1x4096 .f32) (i : Fin 256) (j : Fin 4096) :
    k0_pay20 t w (ix2 i j) = t (ix2 i j) * Ideal.rsqrt (under (∑ k, t (ix2 i k) * t (ix2 i k))) * w (ix2 0 j) := by
  unfold under
  pointwise [k0_pay20]

theorem row_lt (c : Dev nD) (k : Fin 4) (s : Fin 2) : row c k s + a.val < 4096 := by
  have := a.isLt; unfold row; omega
theorem col_lt (r : Bool) : col r + b.val < 4096 := by
  have := b.isLt; cases r
  · show 2048 + b.val < 4096; omega
  · show 0 + b.val < 4096; omega

variable (D : Data Ideal)

theorem squeeze_apply (h) : Shape.reshapeEquiv (s := S1x512x2048) (s' := S512x2048) h (ix2 a b) = ix3 0 a b := by pointwise
/-- A staged piece at a position. -/
theorem xV_apply (r : Bool) (c : Dev nD) (k : Fin 4) (s : Fin 2) :
    xV D r c k s (ix2 a b) = D.x c (ix3 0 ⟨row c k s + a.val, row_lt a c k s⟩ ⟨col r + b.val, col_lt b r⟩) := by
  show D.x c ((Rect.unit (s := S1x4096x4096) ![0, row c k s, col r] S1x512x2048.size (inbX r c k s)).emb
    (Shape.reshapeEquiv squeezes_S1x512x2048_S512x2048.numel_eq (ix2 a b))) = _
  rw [squeeze_apply]
  refine congrArg (D.x c) (funext fun i => ?_)
  revert i
  rw [Fin.forall_fin_succ, Fin.forall_fin_two]
  refine ⟨Fin.ext ?_, Fin.ext ?_, Fin.ext ?_⟩
  · rw [Rect.emb_apply]; rfl
  · rw [Rect.emb_apply]; show _ + 1 * a.val = _; rw [Nat.one_mul]; rfl
  · rw [Rect.emb_apply]; show _ + 1 * b.val = _; rw [Nat.one_mul]; rfl
theorem gV_apply (r : Bool) (c : Dev nD) (k : Fin 4) (s : Fin 2) :
    gV D r c k s (ix2 a b) = D.g c (ix2 ⟨row c k s + a.val, row_lt a c k s⟩ ⟨col r + b.val, col_lt b r⟩) := by
  unfold gV
  show D.g c ((hR r c k s).emb (ix2 a b)) = _
  refine congrArg (D.g c) (funext fun i => ?_)
  revert i
  refine Fin.forall_fin_two.mpr ⟨Fin.ext ?_, Fin.ext ?_⟩
  · rw [Rect.emb_apply]; show _ + 1 * a.val = _; rw [Nat.one_mul]; rfl
  · rw [Rect.emb_apply]; show _ + 1 * b.val = _; rw [Nat.one_mul]; rfl

/-- A half of a block. -/
theorem halfV_apply (r : Bool) (s : Fin 2) (c : Dev nD) : halfV D r s c (ix2 a b) = ownV D s c (ix2 a ⟨col r + b.val, col_lt b r⟩) :=
  congrArg (ownV D s c) (at2_eq a.val (col r + b.val) a.isLt (col_lt b r))

/-! ## The blocks -/

variable (X : Vec Ideal ⟨3, ![4, 4096, 4096]⟩ .f32) (G : Vec Ideal S4096x4096 .f32) (W : Vec Ideal S4096 .f32)

/-- The devices hold their parts of the whole arrays. -/
structure Holds : Prop where
  x (c : Dev nD) (i j : Fin 4096) : D.x c (ix3 0 i j) = X (ix3 c i j)
  g (c : Dev nD) (i j : Fin 4096) : D.g c (ix2 i j) = G (ix2 i j)
  w (c : Dev nD) (j : Fin 4096) : D.w c (ix2 0 j) = W (ix1 j)

variable {D X G W} (H : Holds D X G W)
include H

theorem piece_apply (r : Bool) (c d : Dev nD) (k : Fin 4) (s : Fin 2) (h : row c k s = row d 1 s) :
    xV D r c k s (ix2 a b) = X (ix3 c ⟨row d 1 s + a.val, row_lt a d 1 s⟩ ⟨col r + b.val, col_lt b r⟩) := by
  rw [xV_apply, H.x]
  simp only [h]

/-- One ring's half of a block before it is normalised. -/
theorem sumH_apply (r : Bool) (s : Fin 2) (d : Dev nD) :
    sumH D r s d (ix2 a b) = tot X G ⟨row d 1 s + a.val, row_lt a d 1 s⟩ ⟨col r + b.val, col_lt b r⟩ := by
  have h3 : row (tgt (!r) (tgt (!r) (tgt (!r) d))) (ini r) s = row d 1 s := by revert r d s; decide
  have h2 : row (tgt (!r) (tgt (!r) d)) (rsc r 0) s = row d 1 s := by revert r d s; decide
  have h1 : row (tgt (!r) d) (rsc r 1) s = row d 1 s := by revert r d s; decide
  unfold sumH sumP msg2 msg1 msg0 tot
  rw [resid_apply, last_apply, accum_apply, accum_apply, convert_apply, piece_apply a b H r _ d _ s h3, piece_apply a b H r _ d _ s h2,
    piece_apply a b H r _ d _ s h1, piece_apply a b H r d d 1 s rfl, gV_apply, H.g,
    sum_ring r d fun e => X (ix3 e ⟨row d 1 s + a.val, row_lt a d 1 s⟩ ⟨col r + b.val, col_lt b r⟩)]

/-- A block before it is normalised. -/
theorem sumV_apply (s : Fin 2) (d : Dev nD) (j : Fin 4096) :
    sumV D s d (ix2 a j) = tot X G ⟨row d 1 s + a.val, row_lt a d 1 s⟩ j := by
  have hj := j.isLt
  unfold sumV
  by_cases h : j.val < 2048
  · rw [dif_pos (show ((ix2 a j : S512x4096.Idx) 1).val < 2048 from h)]
    refine (congrArg (sumH D true s d) (at2_eq a.val j.val a.isLt h)).trans ((sumH_apply ⟨a.val, a.isLt⟩ ⟨j.val, h⟩ H true s d).trans ?_)
    congr 1
    exact Fin.ext (by show 0 + j.val = j.val; omega)
  · rw [dif_neg (show ¬ ((ix2 a j : S512x4096.Idx) 1).val < 2048 from h)]
    refine (congrArg (sumH D false s d) (at2_eq a.val (j.val - 2048) a.isLt (by omega))).trans ((sumH_apply ⟨a.val, a.isLt⟩ ⟨j.val - 2048, by omega⟩ H false s d).trans ?_)
    congr 1
    exact Fin.ext (by show 2048 + (j.val - 2048) = j.val; omega)

theorem tileV_apply (s t : Fin 2) (d : Dev nD) (i : Fin 256) (j : Fin 4096) (h : 256 * t.val + i.val = a.val) :
    tileV D s d t (ix2 i j) = tot X G ⟨row d 1 s + a.val, row_lt a d 1 s⟩ j := by
  have ha := a.isLt
  refine (congrArg (sumV D s d) (at2_eq (256 * t.val + i.val) j.val (by omega) j.isLt)).trans ?_
  rw [← sumV_apply a H s d j]
  exact congrArg (fun z => sumV D s d (ix2 z j)) (Fin.ext h)

/-- A block, finished. -/
theorem ownV_apply (s : Fin 2) (d : Dev nD) (j : Fin 4096) :
    ownV D s d (ix2 a j) = rmsN X G W ⟨row d 1 s + a.val, row_lt a d 1 s⟩ j := by
  have ha := a.isLt
  have h : 256 * (a.val / 256) + a.val % 256 = a.val := Nat.div_add_mod a.val 256
  refine (congrArg (k0_pay20 _ _) (at2_eq (a.val % 256) j.val (Nat.mod_lt _ (by decide)) j.isLt)).trans ?_
  refine (tile_apply _ _ ⟨a.val % 256, Nat.mod_lt _ (by decide)⟩ j).trans ?_
  have ht : ∀ k, tileV D s d ⟨a.val / 256, by omega⟩ (ix2 ⟨a.val % 256, Nat.mod_lt _ (by decide)⟩ k) = tot X G ⟨row d 1 s + a.val, row_lt a d 1 s⟩ k :=
    fun k => tileV_apply a H s ⟨a.val / 256, by omega⟩ d _ k h
  unfold rmsN
  rw [← H.w d]
  simp only [← ht]
  rfl

/-- The whole result, on any device. -/
theorem outV_apply (c : Dev nD) (i j : Fin 4096) : outV D c (ix2 i j) = rmsN X G W i j := by
  have hi := i.isLt
  have hj := j.isLt
  have m5 : i.val % 512 < 512 := Nat.mod_lt _ (by decide)
  have m2 : j.val % 2048 < 2048 := Nat.mod_lt _ (by decide)
  have hc : col (decide (j.val < 2048)) + j.val % 2048 = j.val := by
    by_cases h : j.val < 2048
    · rw [decide_eq_true h]; show 0 + _ = _; omega
    · rw [decide_eq_false h]; show 2048 + _ = _; omega
  obtain ⟨d, hd⟩ : ∃ d : Dev nD, d = ⟨(i.val / 1024 + 3) % 4, Nat.mod_lt _ (by decide)⟩ := ⟨_, rfl⟩
  obtain ⟨s, hs⟩ : ∃ s : Fin 2, s = ⟨i.val / 512 % 2, Nat.mod_lt _ (by decide)⟩ := ⟨_, rfl⟩
  have hr : row d 1 s + i.val % 512 = i.val := by
    rw [hd, hs]
    show 1024 * (((i.val / 1024 + 3) % 4 + 1) % 4) + 512 * (i.val / 512 % 2) + i.val % 512 = i.val
    omega
  have hz : (⟨row d 1 s + i.val % 512, row_lt ⟨i.val % 512, m5⟩ d 1 s⟩ : Fin 4096) = i := Fin.ext hr
  have hown : ∀ q : Fin 4096, ownV D s d (ix2 ⟨i.val % 512, m5⟩ q) = rmsN X G W i q := fun q =>
    (ownV_apply ⟨i.val % 512, m5⟩ H s d q).trans (congrArg (fun z : Fin 4096 => rmsN X G W z q) hz)
  have e : outV D c (ix2 i j) = if d = c then ownV D s c (at2 (i.val % 512) j.val m5 j.isLt)
      else k0_pay34 (k0_pay1 (halfV D (decide (j.val < 2048)) s d)) (at2 (i.val % 512) (j.val % 2048) m5 m2) := by
    rw [hd, hs]; rfl
  rw [e, at2_eq, at2_eq, store_apply, convert_apply, halfV_apply, hown]
  by_cases h : d = c
  · rw [if_pos h, ← h]; exact hown j
  · rw [if_neg h]; simp only [hc]

end Kernel

end Cert.RingProof

end
-- ==== Proof.Algebraic.lean ====
/-
# 01_k — kernel and reference compute the same function

The data a launch gives the devices are the whole arrays' values, so every device ends with the reference's result.
-/
module

public import proofs.«01_k».proof.Proof.Values

@[expose] public section

set_option maxRecDepth 16384

noncomputable section

namespace Cert.RingProof

open Cert.KernelIdeal Cert.KernelIdeal.Gen
open Idealize.ShloMosaic Idealize.SL.Sem
open Idealize.ShloMosaic.TcCoe

section Weights
variable {F : FTy → Type} [FloatOps F] (m : (ℓ : Loc nD τ sig) → Buf (Elt F) ℓ)

/-- The region finds the weights laid out as one row. -/
theorem V_v1 (c : Dev nD) : V m c main_v1 =
    shapeCast (s := S4096) S1x4096 (m ((c : Thread nD τ).loc main_arg2)) shapeCasts_S4096_S1x4096 := by
  unfold V
  after_results
  rfl

/-- The one window holds the weights whole. -/
theorem weights_apply (c : Dev nD) (j : Fin 4096) :
    (dataOf m).w c (ix2 0 j) = m ((c : Thread nD τ).loc main_arg2) (ix1 j) := by
  have h : (dataOf m).w c (ix2 0 j) = V m c main_v1 (((cfg0.win 0).blk t0_0).view.emb (ix2 0 j)) := rfl
  have h2 : ((cfg0.win 0).blk t0_0).view.emb (ix2 0 j) = (ix2 0 j : S1x4096.Idx) := by
    funext a; revert a
    refine Fin.forall_fin_two.mpr ⟨Fin.ext rfl, Fin.ext ?_⟩
    show 0 * 4096 + 1 * j.val = j.val
    omega
  rw [h, h2, V_v1]
  pointwise
end Weights

/-- Memories that agree hold the data of one input, one gain and one row of weights. -/
theorem holds {m : (ℓ : Loc nD τ sig) → Buf (Elt Ideal) ℓ}
    {X : Vec Ideal ⟨3, ![4, 4096, 4096]⟩ .f32} {G : Vec Ideal S4096x4096 .f32} {W : Vec Ideal S4096 .f32}
    (hT : Layout.Tiles ⟨3, ![1, 4096, 4096]⟩ ⟨3, ![4, 4096, 4096]⟩ 0 4)
    (h0 : ∀ c : Dev nD, m ((c : Thread nD τ).loc main_arg0) = Layout.block ⟨3, ![1, 4096, 4096]⟩ ⟨3, ![4, 4096, 4096]⟩ 0 4 c X hT)
    (h1 : ∀ c : Dev nD, m ((c : Thread nD τ).loc main_arg1) = G)
    (h2 : ∀ c : Dev nD, m ((c : Thread nD τ).loc main_arg2) = W) : Holds (dataOf m) X G W where
  x c i j := by
    have e : (dataOf m).x c (ix3 0 i j) = X (hT.idx c (ix3 0 i j)) := congrFun (h0 c) _
    have e2 : hT.idx c (ix3 0 i j) = ix3 c i j := by
      funext a
      apply Fin.ext
      rw [Layout.Tiles.idx_val]
      fin_cases a <;> simp
    rw [e, e2]
  g c i j := congrFun (h1 c) _
  w c j := (weights_apply m c j).trans (congrFun (h2 c) _)

/-- Every device's result is the reference's. -/
theorem outV_eq {D : Data Ideal} {X : Vec Ideal ⟨3, ![4, 4096, 4096]⟩ .f32} {G : Vec Ideal S4096x4096 .f32}
    {W : Vec Ideal S4096 .f32} (H : Holds D X G W) (c : Dev nD) : outV D c = refV X G W := by
  funext i
  rw [eq_ix2 i]
  exact (outV_apply H c _ _).trans (refV_apply X G W _ _).symm

/-- From memories that agree, both programs run and every device ends with the reference's result. -/
theorem algebraic : Cert.algebraic_KernelIdeal_ReferenceIdeal := fun m g m' g' _ h =>
  have H := holds (by decide) (fun c => (h c).1) (fun c => (h c).2.1) (fun c => (h c).2.2)
  ⟨_, (θ_run _ _ _).mono (fun _ hr c => ⟨(hr.1 c).1.trans (outV_eq H c), (hr.1 c).2⟩) (run_main m g),
    (θ_run _ _ _).mono (fun _ hr => hr 0) (Cert.ReferenceIdeal.Value.run m' g')⟩

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  RingProof.frame_kernel, RingProof.frame_kernelIdeal, RingProof.frame_reference, trivial, RingProof.algebraic⟩

end Cert.Proof

end
